-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_v57) = v2 c
          ∧ r.2.mem ((c.tc : Thread Cert.ReferenceIdeal.nD Cert.ReferenceIdeal.τ).loc Cert.ReferenceIdeal.main_v60) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x7168 : Shape := ⟨3, ![2, 128, 7168]⟩
abbrev S2 : Shape := ⟨1, ![2]⟩
abbrev S7168x18432 : Shape := ⟨2, ![7168, 18432]⟩
abbrev S3584x18432 : Shape := ⟨2, ![3584, 18432]⟩
abbrev S56x18432 : Shape := ⟨2, ![56, 18432]⟩
abbrev S7168x160 : Shape := ⟨2, ![7168, 160]⟩
abbrev S160x18432 : Shape := ⟨2, ![160, 18432]⟩
abbrev S256x7168 : Shape := ⟨2, ![256, 7168]⟩
abbrev S2x128 : Shape := ⟨2, ![2, 128]⟩
abbrev S256x160 : Shape := ⟨2, ![256, 160]⟩
abbrev S3584x512 : Shape := ⟨2, ![3584, 512]⟩
abbrev S56x512 : Shape := ⟨2, ![56, 512]⟩
abbrev S160x512 : Shape := ⟨2, ![160, 512]⟩
abbrev S7168x512 : Shape := ⟨2, ![7168, 512]⟩
abbrev S256x128 : Shape := ⟨2, ![256, 128]⟩
abbrev S128x512 : Shape := ⟨2, ![128, 512]⟩
abbrev S1x512 : Shape := ⟨2, ![1, 512]⟩
abbrev S256x512 : Shape := ⟨2, ![256, 512]⟩
abbrev S128x1 : Shape := ⟨2, ![128, 1]⟩
abbrev S1 : Shape := ⟨1, ![1]⟩
abbrev S256x1 : Shape := ⟨2, ![256, 1]⟩
abbrev S128x128 : Shape := ⟨2, ![128, 128]⟩
abbrev S128 : Shape := ⟨1, ![128]⟩
abbrev S1x128 : Shape := ⟨2, ![1, 128]⟩
abbrev S256x1024 : Shape := ⟨2, ![256, 1024]⟩
abbrev S1024x160 : Shape := ⟨2, ![1024, 160]⟩

abbrev nBuf : Space → Nat
  | .hbm => 12
  | .vmem => 20
  | .smem => 1
  | _ => 0

abbrev bufTy : (tb : Table) → Fin (tcTables nBuf tb) → BufTy
  | .hbm, ⟨0, _⟩ => ⟨S2x128x7168, .bf16⟩
  | .hbm, ⟨1, _⟩ => ⟨S2, .i32⟩
  | .hbm, ⟨2, _⟩ => ⟨S7168x18432, .bf16⟩
  | .hbm, ⟨3, _⟩ => ⟨S3584x18432, .i8⟩
  | .hbm, ⟨4, _⟩ => ⟨S56x18432, .bf16⟩
  | .hbm, ⟨5, _⟩ => ⟨S7168x160, .bf16⟩
  | .hbm, ⟨6, _⟩ => ⟨S160x18432, .bf16⟩
  | .hbm, ⟨7, _⟩ => ⟨S256x7168, .bf16⟩
  | .hbm, ⟨8, _⟩ => ⟨S2x128, .f32⟩
  | .hbm, ⟨9, _⟩ => ⟨S256x160, .f32⟩
  | .hbm, ⟨10, _⟩ => ⟨S7168x160, .f32⟩
  | .hbm, ⟨11, _⟩ => ⟨S160x18432, .f32⟩
  | .local _ .vmem, ⟨0, _⟩ => ⟨S256x7168, .bf16⟩
  | .local _ .vmem, ⟨1, _⟩ => ⟨S7168x160, .bf16⟩
  | .local _ .vmem, ⟨2, _⟩ => ⟨S3584x512, .bf16⟩
  | .local _ .vmem, ⟨3, _⟩ => ⟨S3584x512, .bf16⟩
  | .local _ .vmem, ⟨4, _⟩ => ⟨S3584x512, .bf16⟩
  | .local _ .vmem, ⟨5, _⟩ => ⟨S3584x512, .bf16⟩
  | .local _ .vmem, ⟨6, _⟩ => ⟨S3584x512, .i8⟩
  | .local _ .vmem, ⟨7, _⟩ => ⟨S3584x512, .i8⟩
  | .local _ .vmem, ⟨8, _⟩ => ⟨S56x512, .bf16⟩
  | .local _ .vmem, ⟨9, _⟩ => ⟨S56x512, .bf16⟩
  | .local _ .vmem, ⟨10, _⟩ => ⟨S160x512, .bf16⟩
  | .local _ .vmem, ⟨11, _⟩ => ⟨S160x512, .bf16⟩
  | .local _ .vmem, ⟨12, _⟩ => ⟨S2x128, .f32⟩
  | .local _ .vmem, ⟨13, _⟩ => ⟨S256x160, .f32⟩
  | .local _ .vmem, ⟨14, _⟩ => ⟨S7168x160, .f32⟩
  | .local _ .vmem, ⟨15, _⟩ => ⟨S160x512, .f32⟩
  | .local _ .vmem, ⟨16, _⟩ => ⟨S160x512, .f32⟩
  | .local _ .vmem, ⟨17, _⟩ => ⟨S7168x512, .bf16⟩
  | .local _ .vmem, ⟨18, _⟩ => ⟨S256x160, .bf16⟩
  | .local _ .vmem, ⟨19, _⟩ => ⟨S256x128, .f32⟩
  | .local _ .smem, ⟨0, _⟩ => ⟨S2, .i32⟩
  | _, _ => ⟨S2x128x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![36], ![false]⟩

def k0_cond2 (i : grid0.Coords) : BitVec 1 :=
  let arg0 : BitVec 32 := BitVec.ofNat 32 (i 0).val
  let c35_i32 : BitVec 32 := 35#32
  let v746 : BitVec 1 := Scalar.cmpi .eq arg0 c35_i32
  let v747 : BitVec 32 := Scalar.extui v746
  let c0_i32_390 : BitVec 32 := 0#32
  let v748 : BitVec 1 := Scalar.cmpi .ne v747 c0_i32_390
  v748

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c1_i32 : BitVec 32 := 1#32
  let c0_i32 : BitVec 32 := 0#32
  ![c1_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x7168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S7168x160 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S3584x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3584x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3584x512 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S56x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S160x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x160 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S7168x160 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S160x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S2x128x7168 : Shape := ⟨3, ![2, 128, 7168]⟩
abbrev S2 : Shape := ⟨1, ![2]⟩
abbrev S7168x18432 : Shape := ⟨2, ![7168, 18432]⟩
abbrev S3584x18432 : Shape := ⟨2, ![3584, 18432]⟩
abbrev S56x18432 : Shape := ⟨2, ![56, 18432]⟩
abbrev S7168x160 : Shape := ⟨2, ![7168, 160]⟩
abbrev S160x18432 : Shape := ⟨2, ![160, 18432]⟩
abbrev S_ : Shape := ⟨0, ![]⟩
abbrev S28x18432 : Shape := ⟨2, ![28, 18432]⟩
abbrev S28x128x18432 : Shape := ⟨3, ![28, 128, 18432]⟩
abbrev S28x1x18432 : Shape := ⟨3, ![28, 1, 18432]⟩
abbrev S2x128x3584 : Shape := ⟨3, ![2, 128, 3584]⟩
abbrev S2x128x18432 : Shape := ⟨3, ![2, 128, 18432]⟩
abbrev S2x128x160 : Shape := ⟨3, ![2, 128, 160]⟩
abbrev S128 : Shape := ⟨1, ![128]⟩
abbrev S1x128 : Shape := ⟨2, ![1, 128]⟩
abbrev S2x1 : Shape := ⟨2, ![2, 1]⟩
abbrev S2x128 : Shape := ⟨2, ![2, 128]⟩
abbrev S2x128x1 : Shape := ⟨3, ![2, 128, 1]⟩
abbrev S256x160 : Shape := ⟨2, ![256, 160]⟩

abbrev nBuf : Space → Nat
  | .hbm => 83
  | .vmem => 0
  | .smem => 0
  | _ => 0

abbrev bufTy : (tb : Table) → Fin (tcTables nBuf tb) → BufTy
  | .hbm, ⟨0, _⟩ => ⟨S2x128x7168, .bf16⟩
  | .hbm, ⟨1, _⟩ => ⟨S2, .i32⟩
  | .hbm, ⟨2, _⟩ => ⟨S7168x18432, .bf16⟩
  | .hbm, ⟨3, _⟩ => ⟨S3584x18432, .i8⟩
  | .hbm, ⟨4, _⟩ => ⟨S56x18432, .bf16⟩
  | .hbm, ⟨5, _⟩ => ⟨S7168x160, .bf16⟩
  | .hbm, ⟨6, _⟩ => ⟨S160x18432, .bf16⟩
  | .hbm, ⟨7, _⟩ => ⟨S3584x18432, .i32⟩
  | .hbm, ⟨8, _⟩ => ⟨S_, .i32⟩
  | .hbm, ⟨9, _⟩ => ⟨S3584x18432, .i32⟩
  | .hbm, ⟨10, _⟩ => ⟨S3584x18432, .i32⟩
  | .hbm, ⟨11, _⟩ => ⟨S_, .i32⟩
  | .hbm, ⟨12, _⟩ => ⟨S3584x18432, .i32⟩
  | .hbm, ⟨13, _⟩ => ⟨S3584x18432, .i32⟩
  | .hbm, ⟨14, _⟩ => ⟨S_, .i32⟩
  | .hbm, ⟨15, _⟩ => ⟨S3584x18432, .i32⟩
  | .hbm, ⟨16, _⟩ => ⟨S3584x18432, .i32⟩
  | .hbm, ⟨17, _⟩ => ⟨S_, .i32⟩
  | .hbm, ⟨18, _⟩ => ⟨S3584x18432, .i32⟩
  | .hbm, ⟨19, _⟩ => ⟨S3584x18432, .i32⟩
  | .hbm, ⟨20, _⟩ => ⟨S_, .i32⟩
  | .hbm, ⟨21, _⟩ => ⟨S3584x18432, .i32⟩
  | .hbm, ⟨22, _⟩ => ⟨S3584x18432, .i32⟩
  | .hbm, ⟨23, _⟩ => ⟨S_, .i32⟩
  | .hbm, ⟨24, _⟩ => ⟨S3584x18432, .i32⟩
  | .hbm, ⟨25, _⟩ => ⟨S3584x18432, .i32⟩
  | .hbm, ⟨26, _⟩ => ⟨S_, .i32⟩
  | .hbm, ⟨27, _⟩ => ⟨S3584x18432, .i32⟩
  | .hbm, ⟨28, _⟩ => ⟨S3584x18432, .i32⟩
  | .hbm, ⟨29, _⟩ => ⟨S28x18432, .bf16⟩
  | .hbm, ⟨30, _⟩ => ⟨S3584x18432, .bf16⟩
  | .hbm, ⟨31, _⟩ => ⟨S3584x18432, .bf16⟩
  | .hbm, ⟨32, _⟩ => ⟨S28x128x18432, .bf16⟩
  | .hbm, ⟨33, _⟩ => ⟨S28x1x18432, .bf16⟩
  | .hbm, ⟨34, _⟩ => ⟨S28x128x18432, .bf16⟩
  | .hbm, ⟨35, _⟩ => ⟨S28x128x18432, .bf16⟩
  | .hbm, ⟨36, _⟩ => ⟨S3584x18432, .bf16⟩
  | .hbm, ⟨37, _⟩ => ⟨S3584x18432, .bf16⟩
  | .hbm, ⟨38, _⟩ => ⟨S28x18432, .bf16⟩
  | .hbm, ⟨39, _⟩ => ⟨S3584x18432, .bf16⟩
  | .hbm, ⟨40, _⟩ => ⟨S3584x18432, .bf16⟩
  | .hbm, ⟨41, _⟩ => ⟨S28x128x18432, .bf16⟩
  | .hbm, ⟨42, _⟩ => ⟨S28x1x18432, .bf16⟩
  | .hbm, ⟨43, _⟩ => ⟨S28x128x18432, .bf16⟩
  | .hbm, ⟨44, _⟩ => ⟨S28x128x18432, .bf16⟩
  | .hbm, ⟨45, _⟩ => ⟨S3584x18432, .bf16⟩
  | .hbm, ⟨46, _⟩ => ⟨S3584x18432, .bf16⟩
  | .hbm, ⟨47, _⟩ => ⟨S2x128x3584, .bf16⟩
  | .hbm, ⟨48, _⟩ => ⟨S2x128x18432, .f32⟩
  | .hbm, ⟨49, _⟩ => ⟨S2x128x3584, .bf16⟩
  | .hbm, ⟨50, _⟩ => ⟨S2x128x18432, .f32⟩
  | .hbm, ⟨51, _⟩ => ⟨S2x128x18432, .f32⟩
  | .hbm, ⟨52, _⟩ => ⟨S2x128x160, .f32⟩
  | .hbm, ⟨53, _⟩ => ⟨S2x128x160, .bf16⟩
  | .hbm, ⟨54, _⟩ => ⟨S2x128x18432, .f32⟩
  | .hbm, ⟨55, _⟩ => ⟨S128, .i32⟩
  | .hbm, ⟨56, _⟩ => ⟨S1x128, .i32⟩
  | .hbm, ⟨57, _⟩ => ⟨S2x1, .i32⟩
  | .hbm, ⟨58, _⟩ => ⟨S2x128, .i32⟩
  | .hbm, ⟨59, _⟩ => ⟨S2x128, .i32⟩
  | .hbm, ⟨60, _⟩ => ⟨S2x128, .i1⟩
  | .hbm, ⟨61, _⟩ => ⟨S2x128x1, .i1⟩
  | .hbm, ⟨62, _⟩ => ⟨S2x128x18432, .f32⟩
  | .hbm, ⟨63, _⟩ => ⟨S_, .f32⟩
  | .hbm, ⟨64, _⟩ => ⟨S_, .f32⟩
  | .hbm, ⟨65, _⟩ => ⟨S2x128x18432, .i1⟩
  | .hbm, ⟨66, _⟩ => ⟨S2x128x18432, .f32⟩
  | .hbm, ⟨67, _⟩ => ⟨S2x128x18432, .f32⟩
  | .hbm, ⟨68, _⟩ => ⟨S2x128x18432, .f32⟩
  | .hbm, ⟨69, _⟩ => ⟨S_, .f32⟩
  | .hbm, ⟨70, _⟩ => ⟨S2x128, .f32⟩
  | .hbm, ⟨71, _⟩ => ⟨S2x128x18432, .bf16⟩
  | .hbm, ⟨72, _⟩ => ⟨S2x128x160, .f32⟩
  | .hbm, ⟨73, _⟩ => ⟨S2x128x160, .bf16⟩
  | .hbm, ⟨74, _⟩ => ⟨S7168x160, .f32⟩
  | .hbm, ⟨75, _⟩ => ⟨S_, .f32⟩
  | .hbm, ⟨76, _⟩ => ⟨S7168x160, .f32⟩
  | .hbm, ⟨77, _⟩ => ⟨S7168x160, .f32⟩
  | .hbm, ⟨78, _⟩ => ⟨S160x18432, .f32⟩
  | .hbm, ⟨79, _⟩ => ⟨S_, .f32⟩
  | .hbm, ⟨80, _⟩ => ⟨S160x18432, .f32⟩
  | .hbm, ⟨81, _⟩ => ⟨S160x18432, .f32⟩
  | .hbm, ⟨82, _⟩ => ⟨S256x160, .f32⟩
  | _, _ => ⟨S2x128x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_c_2 : Ref sig .tc := ⟨.hbm, 17, rfl⟩
abbrev main_v7 : Ref sig .tc := ⟨.hbm, 18, rfl⟩
abbrev main_v8 : Ref sig .tc := ⟨.hbm, 19, rfl⟩
abbrev main_c_3 : Ref sig .tc := ⟨.hbm, 20, rfl⟩
abbrev main_v9 : Ref sig .tc := ⟨.hbm, 21, rfl⟩
abbrev main_v10 : Ref sig .tc := ⟨.hbm, 22, rfl⟩
abbrev main_c_4 : Ref sig .tc := ⟨.hbm, 23, rfl⟩
abbrev main_v11 : Ref sig .tc := ⟨.hbm, 24, rfl⟩
abbrev main_v12 : Ref sig .tc := ⟨.hbm, 25, rfl⟩
abbrev main_c_5 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst : Ref sig .tc := ⟨.hbm, 63, rfl⟩
abbrev main_call0_v0 : Ref sig .tc := ⟨.hbm, 64, rfl⟩
abbrev main_call0_v1 : Ref sig .tc := ⟨.hbm, 65, rfl⟩
abbrev main_call0_v2 : Ref sig .tc := ⟨.hbm, 66, rfl⟩
abbrev main_v49 : Ref sig .tc := ⟨.hbm, 67, rfl⟩
abbrev main_v50 : Ref sig .tc := ⟨.hbm, 68, rfl⟩
abbrev main_cst_6 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_7 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_8 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩

abbrev nD : Nat := 1
abbrev τ : Topo := Topo.v7x

variable {F : FTy → Type} [FloatOps F]
-- ==== Proof.Blocks.lean ====
/-
  What one grid point computes, as functions of the blocks it reads: the error block `E` the 56 stores build, and the
  residual block.
-/
module

public import proofs.«01_k».proof.Proof.Gen.KernelIdeal.Frame
public import Idealize.ShloMosaic.Lib.Pointwise
public import Idealize.ShloMosaic.Lib.Pipeline.Value
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

theorem hz : (![0, 0] : Fin 2 → Nat) = fun _ => 0 := funext fun a => by fin_cases a <;> rfl

/-- The low nibble of a byte, sign-extended, as the kernel computes it. -/
def loCode (v : BitVec 8) : BitVec 8 := IntOp.shrsi ArithUnit.vector (IntOp.shli ArithUnit.vector v 4#8) 4#8

/-- The high nibble of a byte, sign-extended, as the kernel computes it. -/
def hiCode (v : BitVec 8) : BitVec 8 := IntOp.shrsi ArithUnit.vector v 4#8

/-- The error block at a row `k` and a lane `l`: weight minus code times scale. -/
def EV (x3 x4 : Vec Ideal S3584x512 .bf16) (x5 : Vec Ideal S3584x512 .i8) (x6 : Vec Ideal S56x512 .bf16)
    (y : S7168x512.Idx) : Elt Ideal .bf16 :=
  if h : (y 0).val < 3584 then
    x3 (ix2 ⟨(y 0).val, h⟩ (y 1)) - FloatOps.sitofp (F := Ideal) .bf16 (loCode (x5 (ix2 ⟨(y 0).val, h⟩ (y 1))))
      * x6 (ix2 ⟨(y 0).val / 128, by omega⟩ (y 1))
  else
    have hb : (y 0).val < 7168 := (y 0).isLt
    x4 (ix2 ⟨(y 0).val - 3584, by omega⟩ (y 1))
      - FloatOps.sitofp (F := Ideal) .bf16 (hiCode (x5 (ix2 ⟨(y 0).val - 3584, by omega⟩ (y 1))))
      * x6 (ix2 ⟨(y 0).val / 128, by omega⟩ (y 1))

/-- A store of 128 low rows stores the error block there. -/
theorem piece_lo (x3 x4 : Vec Ideal S3584x512 .bf16) (x5 : Vec Ideal S3584x512 .i8) (x6 : Vec Ideal S56x512 .bf16)
    (o q : Nat) (ho : o = 128 * q) (hq : q < 28)
    (h5 : ∀ a, (![o, 0] : Fin 2 → Nat) a + S128x512.size a ≤ S3584x512.size a)
    (h6 : ∀ a, (![q, 0] : Fin 2 → Nat) a + S1x512.size a ≤ S56x512.size a)
    (hE : ∀ a, (![o, 0] : Fin 2 → Nat) a + S128x512.size a ≤ S7168x512.size a)
    (x : S128x512.Idx) :
    k0_pay16 (F := Ideal) (View.ld x5 (Rect.unit (s := S3584x512) ![o, 0] S128x512.size h5))
        (View.ld x6 (Rect.unit (s := S56x512) ![q, 0] S1x512.size h6))
        (View.ld x3 (Rect.unit (s := S3584x512) ![o, 0] S128x512.size h5)) x
      = EV x3 x4 x5 x6 ((Rect.unit (s := S7168x512) ![o, 0] S128x512.size hE).emb x) := by
  subst ho
  obtain ⟨p, l, rfl⟩ : ∃ (p : Fin 128) (l : Fin 512), x = ix2 p l := ⟨x 0, x 1, by funext a; fin_cases a <;> rfl⟩
  have hp := p.isLt
  have hl := l.isLt
  have eE : (Rect.unit (s := S7168x512) ![128 * q, 0] S128x512.size hE).emb (ix2 p l)
      = ix2 (⟨128 * q + p.val, by omega⟩ : Fin 7168) l := by
    funext a; apply Fin.ext; rw [Rect.emb_apply]; fin_cases a <;> simp
  have hd : (128 * q + p.val) / 128 = q := by omega
  rw [eE]
  unfold EV
  rw [dif_pos (show ((ix2 (⟨128 * q + p.val, by omega⟩ : Fin 7168) l) 0).val < 3584 by
    show 128 * q + p.val < 3584; omega)]
  pointwise [k0_pay16]
  simp only [loCode, hd]

/-- A store of 128 high rows stores the error block there. -/
theorem piece_hi (x3 x4 : Vec Ideal S3584x512 .bf16) (x5 : Vec Ideal S3584x512 .i8) (x6 : Vec Ideal S56x512 .bf16)
    (o q r t : Nat) (ho : o = 128 * q) (hr : r = 28 + q) (ht : t = 3584 + o) (hq : q < 28)
    (h5 : ∀ a, (![o, 0] : Fin 2 → Nat) a + S128x512.size a ≤ S3584x512.size a)
    (h6 : ∀ a, (![r, 0] : Fin 2 → Nat) a + S1x512.size a ≤ S56x512.size a)
    (hE : ∀ a, (![t, 0] : Fin 2 → Nat) a + S128x512.size a ≤ S7168x512.size a)
    (x : S128x512.Idx) :
    k0_pay17 (F := Ideal) (View.ld x5 (Rect.unit (s := S3584x512) ![o, 0] S128x512.size h5))
        (View.ld x6 (Rect.unit (s := S56x512) ![r, 0] S1x512.size h6))
        (View.ld x4 (Rect.unit (s := S3584x512) ![o, 0] S128x512.size h5)) x
      = EV x3 x4 x5 x6 ((Rect.unit (s := S7168x512) ![t, 0] S128x512.size hE).emb x) := by
  subst ht ho hr
  obtain ⟨p, l, rfl⟩ : ∃ (p : Fin 128) (l : Fin 512), x = ix2 p l := ⟨x 0, x 1, by funext a; fin_cases a <;> rfl⟩
  have hp := p.isLt
  have hl := l.isLt
  have eE : (Rect.unit (s := S7168x512) ![3584 + 128 * q, 0] S128x512.size hE).emb (ix2 p l)
      = ix2 (⟨3584 + 128 * q + p.val, by omega⟩ : Fin 7168) l := by
    funext a; apply Fin.ext; rw [Rect.emb_apply]; fin_cases a <;> simp
  have hd : (3584 + 128 * q + p.val) / 128 = 28 + q := by omega
  have hs : 3584 + 128 * q + p.val - 3584 = 128 * q + p.val := by omega
  rw [eE]
  unfold EV
  rw [dif_neg (show ¬ ((ix2 (⟨3584 + 128 * q + p.val, by omega⟩ : Fin 7168) l) 0).val < 3584 by
    show ¬ 3584 + 128 * q + p.val < 3584; omega)]
  pointwise [k0_pay17]
  simp only [hiCode, hd, hs]

section Canon

variable (c : Dev nD) (arg4 : Memref sig .tc .vmem S3584x512 .bf16) (harg4 : arg4.IsWhole)
  (arg5 : Memref sig .tc .vmem S3584x512 .bf16) (harg5 : arg5.IsWhole)
  (arg6 : Memref sig .tc .vmem S3584x512 .i8) (harg6 : arg6.IsWhole)
  (arg7 : Memref sig .tc .vmem S56x512 .bf16) (harg7 : arg7.IsWhole)
  (x3 x4 : Vec Ideal S3584x512 .bf16) (x5 : Vec Ideal S3584x512 .i8) (x6 : Vec Ideal S56x512 .bf16)

/-- The 56 stores of case A leave the error block. -/
theorem canon_A : View.canon (kernelRun0_A.sl.HS0_56 (F := Ideal) c arg4 harg4 arg5 harg5 arg6 harg6 arg7 harg7 x3 x4 x5 x6)
    = EV x3 x4 x5 x6 := by
  funext y
  refine View.canon_apply_of_pieces (EV x3 x4 x5 x6) _ ?_ y
    (View.cover_of_tiledL (kernelRun0_A.sl.HS0_56 (F := Ideal) c arg4 harg4 arg5 harg5 arg6 harg6 arg7 harg7 x3 x4 x5 x6)
      S128x512.size (by sl_kernel_rfl) y)
  unfold kernelRun0_A.sl.HS0_56
  simp only [List.forall_mem_cons]
  sl_unfold_words
  simp only [View.readAt_eq_ld, harg4.read_unread, harg5.read_unread, harg6.read_unread, harg7.read_unread]
  exact ⟨
    piece_hi x3 x4 x5 x6 3456 27 55 7040 rfl rfl rfl (by decide) _ _ _,
    piece_lo x3 x4 x5 x6 3456 27 rfl (by decide) _ _ _,
    piece_hi x3 x4 x5 x6 3328 26 54 6912 rfl rfl rfl (by decide) _ _ _,
    piece_lo x3 x4 x5 x6 3328 26 rfl (by decide) _ _ _,
    piece_hi x3 x4 x5 x6 3200 25 53 6784 rfl rfl rfl (by decide) _ _ _,
    piece_lo x3 x4 x5 x6 3200 25 rfl (by decide) _ _ _,
    piece_hi x3 x4 x5 x6 3072 24 52 6656 rfl rfl rfl (by decide) _ _ _,
    piece_lo x3 x4 x5 x6 3072 24 rfl (by decide) _ _ _,
    piece_hi x3 x4 x5 x6 2944 23 51 6528 rfl rfl rfl (by decide) _ _ _,
    piece_lo x3 x4 x5 x6 2944 23 rfl (by decide) _ _ _,
    piece_hi x3 x4 x5 x6 2816 22 50 6400 rfl rfl rfl (by decide) _ _ _,
    piece_lo x3 x4 x5 x6 2816 22 rfl (by decide) _ _ _,
    piece_hi x3 x4 x5 x6 2688 21 49 6272 rfl rfl rfl (by decide) _ _ _,
    piece_lo x3 x4 x5 x6 2688 21 rfl (by decide) _ _ _,
    piece_hi x3 x4 x5 x6 2560 20 48 6144 rfl rfl rfl (by decide) _ _ _,
    piece_lo x3 x4 x5 x6 2560 20 rfl (by decide) _ _ _,
    piece_hi x3 x4 x5 x6 2432 19 47 6016 rfl rfl rfl (by decide) _ _ _,
    piece_lo x3 x4 x5 x6 2432 19 rfl (by decide) _ _ _,
    piece_hi x3 x4 x5 x6 2304 18 46 5888 rfl rfl rfl (by decide) _ _ _,
    piece_lo x3 x4 x5 x6 2304 18 rfl (by decide) _ _ _,
    piece_hi x3 x4 x5 x6 2176 17 45 5760 rfl rfl rfl (by decide) _ _ _,
    piece_lo x3 x4 x5 x6 2176 17 rfl (by decide) _ _ _,
    piece_hi x3 x4 x5 x6 2048 16 44 5632 rfl rfl rfl (by decide) _ _ _,
    piece_lo x3 x4 x5 x6 2048 16 rfl (by decide) _ _ _,
    piece_hi x3 x4 x5 x6 1920 15 43 5504 rfl rfl rfl (by decide) _ _ _,
    piece_lo x3 x4 x5 x6 1920 15 rfl (by decide) _ _ _,
    piece_hi x3 x4 x5 x6 1792 14 42 5376 rfl rfl rfl (by decide) _ _ _,
    piece_lo x3 x4 x5 x6 1792 14 rfl (by decide) _ _ _,
    piece_hi x3 x4 x5 x6 1664 13 41 5248 rfl rfl rfl (by decide) _ _ _,
    piece_lo x3 x4 x5 x6 1664 13 rfl (by decide) _ _ _,
    piece_hi x3 x4 x5 x6 1536 12 40 5120 rfl rfl rfl (by decide) _ _ _,
    piece_lo x3 x4 x5 x6 1536 12 rfl (by decide) _ _ _,
    piece_hi x3 x4 x5 x6 1408 11 39 4992 rfl rfl rfl (by decide) _ _ _,
    piece_lo x3 x4 x5 x6 1408 11 rfl (by decide) _ _ _,
    piece_hi x3 x4 x5 x6 1280 10 38 4864 rfl rfl rfl (by decide) _ _ _,
    piece_lo x3 x4 x5 x6 1280 10 rfl (by decide) _ _ _,
    piece_hi x3 x4 x5 x6 1152 9 37 4736 rfl rfl rfl (by decide) _ _ _,
    piece_lo x3 x4 x5 x6 1152 9 rfl (by decide) _ _ _,
    piece_hi x3 x4 x5 x6 1024 8 36 4608 rfl rfl rfl (by decide) _ _ _,
    piece_lo x3 x4 x5 x6 1024 8 rfl (by decide) _ _ _,
    piece_hi x3 x4 x5 x6 896 7 35 4480 rfl rfl rfl (by decide) _ _ _,
    piece_lo x3 x4 x5 x6 896 7 rfl (by decide) _ _ _,
    piece_hi x3 x4 x5 x6 768 6 34 4352 rfl rfl rfl (by decide) _ _ _,
    piece_lo x3 x4 x5 x6 768 6 rfl (by decide) _ _ _,
    piece_hi x3 x4 x5 x6 640 5 33 4224 rfl rfl rfl (by decide) _ _ _,
    piece_lo x3 x4 x5 x6 640 5 rfl (by decide) _ _ _,
    piece_hi x3 x4 x5 x6 512 4 32 4096 rfl rfl rfl (by decide) _ _ _,
    piece_lo x3 x4 x5 x6 512 4 rfl (by decide) _ _ _,
    piece_hi x3 x4 x5 x6 384 3 31 3968 rfl rfl rfl (by decide) _ _ _,
    piece_lo x3 x4 x5 x6 384 3 rfl (by decide) _ _ _,
    piece_hi x3 x4 x5 x6 256 2 30 3840 rfl rfl rfl (by decide) _ _ _,
    piece_lo x3 x4 x5 x6 256 2 rfl (by decide) _ _ _,
    piece_hi x3 x4 x5 x6 128 1 29 3712 rfl rfl rfl (by decide) _ _ _,
    piece_lo x3 x4 x5 x6 128 1 rfl (by decide) _ _ _,
    piece_hi x3 x4 x5 x6 0 0 28 3584 rfl rfl rfl (by decide) _ _ _,
    piece_lo x3 x4 x5 x6 0 0 rfl (by decide) _ _ _,
    fun _ h => absurd h List.not_mem_nil⟩

/-- The 56 stores of case B leave the error block. -/
theorem canon_B : View.canon (kernelRun0_B.sl.HS0_56 (F := Ideal) c arg4 harg4 arg5 harg5 arg6 harg6 arg7 harg7 x3 x4 x5 x6)
    = EV x3 x4 x5 x6 :=
  (congrArg View.canon (show kernelRun0_B.sl.HS0_56 (F := Ideal) c arg4 harg4 arg5 harg5 arg6 harg6 arg7 harg7 x3 x4 x5 x6
    = kernelRun0_A.sl.HS0_56 (F := Ideal) c arg4 harg4 arg5 harg5 arg6 harg6 arg7 harg7 x3 x4 x5 x6 from rfl)).trans
    (canon_A c arg4 harg4 arg5 harg5 arg6 harg6 arg7 harg7 x3 x4 x5 x6)

/-- The 56 stores of case C leave the error block. -/
theorem canon_C : View.canon (kernelRun0_C.sl.HS0_56 (F := Ideal) c arg4 harg4 arg5 harg5 arg6 harg6 arg7 harg7 x3 x4 x5 x6)
    = EV x3 x4 x5 x6 :=
  (congrArg View.canon (show kernelRun0_C.sl.HS0_56 (F := Ideal) c arg4 harg4 arg5 harg5 arg6 harg6 arg7 harg7 x3 x4 x5 x6
    = kernelRun0_A.sl.HS0_56 (F := Ideal) c arg4 harg4 arg5 harg5 arg6 harg6 arg7 harg7 x3 x4 x5 x6 from rfl)).trans
    (canon_A c arg4 harg4 arg5 harg5 arg6 harg6 arg7 harg7 x3 x4 x5 x6)

end Canon

end Cert.KernelIdeal.Hand
-- ==== Proof.Spec.lean ====
/-
  The mathematics of the four results, over the extended reals: a weight matrix minus its four-bit reconstruction, the
  masked residual of the activations against it and against the low-rank factors, and the loss and gradients of that
  residual. Rows of the activations are numbered over both sequences.
-/
module

public import proofs.«01_k».proof.Proof.Blocks

@[expose] public section

noncomputable section

namespace Cert.KernelIdeal.Hand

open Idealize.ShloMosaic Idealize.ShloMosaic.TcCoe
open scoped BigOperators

/-- The seven arguments, by their coordinates; `X`'s rows run over both sequences. -/
structure Inp where
  /-- activations -/
  X : Fin 256 → Fin 7168 → EReal
  /-- sequence lengths -/
  len : Fin 2 → BitVec 32
  /-- weights -/
  W : Fin 7168 → Fin 18432 → EReal
  /-- bytes of two codes -/
  C : Fin 3584 → Fin 18432 → BitVec 8
  /-- scales -/
  S : Fin 56 → Fin 18432 → EReal
  /-- down-projection factor -/
  A : Fin 7168 → Fin 160 → EReal
  /-- up-projection factor -/
  B : Fin 160 → Fin 18432 → EReal

namespace Inp

variable (I : Inp)

/-- Weight minus code times scale: the low nibbles hold the first half of the rows, the high nibbles the second. -/
def err (k : Fin 7168) (n : Fin 18432) : EReal :=
  if h : k.val < 3584 then
    I.W k n - FloatOps.sitofp (F := Ideal) .bf16 (loCode (I.C ⟨k.val, h⟩ n)) * I.S ⟨k.val / 128, by omega⟩ n
  else
    I.W k n - FloatOps.sitofp (F := Ideal) .bf16 (hiCode (I.C ⟨k.val - 3584, by omega⟩ n)) * I.S ⟨k.val / 128, by omega⟩ n

/-- The activations through the down-projection factor. -/
def pb (p : Fin 256) (r : Fin 160) : EReal := ∑ k, I.X p k * I.A k r

/-- The residual before the mask. -/
def pre (p : Fin 256) (n : Fin 18432) : EReal := ∑ k, I.X p k * I.err k n - ∑ r, I.pb p r * I.B r n

/-- The residual: zero at the rows past the sequence's length. -/
def res (p : Fin 256) (n : Fin 18432) : EReal :=
  Scalar.select (IntOp.cmpi .slt (BitVec.ofNat 32 (p.val % 128)) (I.len ⟨p.val / 128, by omega⟩)) (I.pre p n) 0

/-- The loss of a row: its residual's sum of squares. -/
def loss (p : Fin 256) : EReal := ∑ n, I.res p n * I.res p n

/-- The residual through the up-projection factor. -/
def g (p : Fin 256) (r : Fin 160) : EReal := ∑ n, I.res p n * I.B r n

/-- The gradient of the down-projection factor. -/
def da (d : Fin 7168) (r : Fin 160) : EReal := Ideal.ofBits .f32 3221225472#32 * ∑ p, I.X p d * I.g p r

/-- The gradient of the up-projection factor. -/
def db (r : Fin 160) (n : Fin 18432) : EReal := Ideal.ofBits .f32 3221225472#32 * ∑ p, I.pb p r * I.res p n

end Inp

/-- Column `l` of the tile of 512 columns at point `t`. -/
def col (t l : Nat) : Fin 18432 := ⟨(t * 512 + l) % 18432, Nat.mod_lt _ (by decide)⟩

/-- Summing over the 36 tiles is summing over the columns. -/
theorem sum_tiles (f : Fin 18432 → EReal) :
    ∑ t ∈ Finset.range 36, ∑ l : Fin 512, f (col t l.val) = ∑ n, f n := by
  rw [← Fin.sum_univ_eq_sum_range (fun t => ∑ l : Fin 512, f (col t l.val)) 36, ← Fintype.sum_prod_type',
    ← Equiv.sum_comp (finProdFinEquiv (m := 36) (n := 512)) f]
  refine Finset.sum_congr rfl fun x _ => congrArg f (Fin.ext ?_)
  show (x.1.val * 512 + x.2.val) % 18432 = x.2.val + 512 * x.1.val
  have h1 := x.1.isLt
  have h2 := x.2.isLt
  omega

/-- Summing the four groups of 128 lanes at each lane is summing over the tile. -/
theorem sum_lanes (f : Nat → EReal) :
    ∑ q : Fin 128, (f q.val + f (128 + q.val) + f (256 + q.val) + f (384 + q.val)) = ∑ l : Fin 512, f l.val := by
  have h : ∑ l : Fin 512, f l.val = ∑ j : Fin 4, ∑ q : Fin 128, f (j.val * 128 + q.val) := by
    rw [← Fintype.sum_prod_type', ← Equiv.sum_comp (finProdFinEquiv (m := 4) (n := 128)) (fun l : Fin 512 => f l.val)]
    refine Finset.sum_congr rfl fun x _ => congrArg f ?_
    show x.2.val + 128 * x.1.val = x.1.val * 128 + x.2.val
    omega
  rw [h, Finset.sum_comm]
  refine Finset.sum_congr rfl fun q _ => ?_
  rw [Fin.sum_univ_four]
  show _ = f (0 * 128 + q.val) + f (1 * 128 + q.val) + f (2 * 128 + q.val) + f (3 * 128 + q.val)
  simp only [Nat.zero_mul, Nat.zero_add, Nat.one_mul, show 2 * 128 = 256 from rfl, show 3 * 128 = 384 from rfl]

end Cert.KernelIdeal.Hand
-- ==== Proof.Arrays.lean ====
/-
  The blocks a grid point reads, as entries of the arguments: point `t` reads 512 columns of the weights, the codes, the
  scales and the up-projection factor, and the whole of the activations, the lengths and the down-projection factor.
-/
module

public import proofs.«01_k».proof.Proof.Spec

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable (m : (ℓ : Loc nD τ sig) → Buf (Elt Ideal) ℓ) (c : Dev nD)

/-- The arguments in memory, by coordinates. -/
def inp : Inp where
  X p k := (m ((c : Thread nD τ).loc main_arg0) : Vec Ideal S2x128x7168 .bf16)
    (ix3 (⟨p.val / 128, by omega⟩ : Fin 2) (⟨p.val % 128, by omega⟩ : Fin 128) k)
  len i := (m ((c : Thread nD τ).loc main_arg1) : Vec Ideal S2 .i32) (ix1 i)
  W k n := (m ((c : Thread nD τ).loc main_arg2) : Vec Ideal S7168x18432 .bf16) (ix2 k n)
  C k n := (m ((c : Thread nD τ).loc main_arg3) : Vec Ideal S3584x18432 .i8) (ix2 k n)
  S k n := (m ((c : Thread nD τ).loc main_arg4) : Vec Ideal S56x18432 .bf16) (ix2 k n)
  A k r := (m ((c : Thread nD τ).loc main_arg5) : Vec Ideal S7168x160 .bf16) (ix2 k r)
  B r n := (m ((c : Thread nD τ).loc main_arg6) : Vec Ideal S160x18432 .bf16) (ix2 r n)

theorem idx0 : ∀ t : Fin cfg0.N, win0_0.index t (0 : Fin 1) = 0 := (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = t.val :=
  (by decide +kernel : ∀ t : Fin grid0.N, _)
theorem idx4 : ∀ t : Fin cfg0.N, win0_4.index t (0 : Fin 2) = 1 ∧ win0_4.index t (1 : Fin 2) = t.val :=
  (by decide +kernel : ∀ t : Fin grid0.N, _)
theorem idx5 : ∀ t : Fin cfg0.N, win0_5.index t (0 : Fin 2) = 0 ∧ win0_5.index t (1 : Fin 2) = t.val :=
  (by decide +kernel : ∀ t : Fin grid0.N, _)
theorem idx6 : ∀ t : Fin cfg0.N, win0_6.index t (0 : Fin 2) = 0 ∧ win0_6.index t (1 : Fin 2) = t.val :=
  (by decide +kernel : ∀ t : Fin grid0.N, _)
theorem idx7 : ∀ t : Fin cfg0.N, win0_7.index t (0 : Fin 2) = 0 ∧ win0_7.index t (1 : Fin 2) = t.val :=
  (by decide +kernel : ∀ t : Fin grid0.N, _)

variable (t : Fin cfg0.N)

theorem col_val (l : Fin 512) : (col t.val l.val).val = t.val * 512 + l.val := by
  have h1 : t.val < 36 := lt_of_lt_of_eq t.isLt N_0
  have h2 := l.isLt
  show (t.val * 512 + l.val) % 18432 = _
  omega

/-- The length words. -/
theorem blk0 (i : Fin 2) : (iblk m c 0 t : Vec Ideal S2 .i32) (ix1 i) = (inp m c).len i := by
  unfold iblk
  rw [View.read_apply]
  show V m c main_arg1 _ = m (c.tc.loc main_arg1) _
  rw [V_main_arg1]
  refine congrArg _ (funext fun a => Fin.ext ?_)
  match a with
  | ⟨0, _⟩ => show win0_0.index t 0 * 2 + 1 * i.val = i.val; rw [idx0]; omega

/-- The activations, their rows over both sequences. -/
theorem blk1 (p : Fin 256) (k : Fin 7168) : (iblk m c 1 t : Vec Ideal S256x7168 .bf16) (ix2 p k) = (inp m c).X p k := by
  unfold iblk
  rw [View.read_apply]
  show V m c main_v0 _ = _
  have e : V m c main_v0 = shapeCast S256x7168 (m ((c : Thread nD τ).loc main_arg0) : Vec Ideal S2x128x7168 .bf16)
      shapeCasts_S2x128x7168_S256x7168 := rfl
  rw [e]
  have ei : ((cfg0.win 1).blk t).view.emb (ix2 p k) = (ix2 p k : S256x7168.Idx) := by
    refine funext fun a => Fin.ext ?_
    match a with
    | ⟨0, _⟩ => show win0_1.index t 0 * 256 + 1 * p.val = p.val; rw [(idx1 t).1]; omega
    | ⟨1, _⟩ => show win0_1.index t 1 * 7168 + 1 * k.val = k.val; rw [(idx1 t).2]; omega
  refine (congrArg _ ei).trans ?_
  refine shapeCast_apply _ shapeCasts_S2x128x7168_S256x7168 _
    (ix3 (⟨p.val / 128, by omega⟩ : Fin 2) (⟨p.val % 128, by omega⟩ : Fin 128) k) ?_
  rw [Shape.rowMajor_val_three, Shape.rowMajor_val_two]
  have h0 := p.isLt
  have h1 := k.isLt
  show (p.val / 128 * 128 + p.val % 128) * 7168 + k.val = p.val * 7168 + k.val
  omega

/-- The down-projection factor. -/
theorem blk2 (k : Fin 7168) (r : Fin 160) : (iblk m c 2 t : Vec Ideal S7168x160 .bf16) (ix2 k r) = (inp m c).A k r := by
  unfold iblk
  rw [View.read_apply]
  show V m c main_arg5 _ = m (c.tc.loc main_arg5) _
  rw [V_main_arg5]
  refine congrArg _ (funext fun a => Fin.ext ?_)
  match a with
  | ⟨0, _⟩ => show win0_2.index t 0 * 7168 + 1 * k.val = k.val; rw [(idx2 t).1]; omega
  | ⟨1, _⟩ => show win0_2.index t 1 * 160 + 1 * r.val = r.val; rw [(idx2 t).2]; omega

/-- The first half of the weights' rows. -/
theorem blk3 (k : Fin 3584) (l : Fin 512) : (iblk m c 3 t : Vec Ideal S3584x512 .bf16) (ix2 k l)
    = (inp m c).W ⟨k.val, by omega⟩ (col t.val l.val) := by
  unfold iblk
  rw [View.read_apply]
  show V m c main_arg2 _ = m (c.tc.loc main_arg2) _
  rw [V_main_arg2]
  refine congrArg _ (funext fun a => Fin.ext ?_)
  match a with
  | ⟨0, _⟩ => show win0_3.index t 0 * 3584 + 1 * k.val = k.val; rw [(idx3 t).1]; omega
  | ⟨1, _⟩ => show win0_3.index t 1 * 512 + 1 * l.val = (col t.val l.val).val; rw [(idx3 t).2, col_val]; omega

/-- The second half of the weights' rows. -/
theorem blk4 (k : Fin 3584) (l : Fin 512) : (iblk m c 4 t : Vec Ideal S3584x512 .bf16) (ix2 k l)
    = (inp m c).W ⟨3584 + k.val, by omega⟩ (col t.val l.val) := by
  unfold iblk
  rw [View.read_apply]
  show V m c main_arg2 _ = m (c.tc.loc main_arg2) _
  rw [V_main_arg2]
  refine congrArg _ (funext fun a => Fin.ext ?_)
  match a with
  | ⟨0, _⟩ => show win0_4.index t 0 * 3584 + 1 * k.val = 3584 + k.val; rw [(idx4 t).1]; omega
  | ⟨1, _⟩ => show win0_4.index t 1 * 512 + 1 * l.val = (col t.val l.val).val; rw [(idx4 t).2, col_val]; omega

/-- The bytes of codes. -/
theorem blk5 (k : Fin 3584) (l : Fin 512) : (iblk m c 5 t : Vec Ideal S3584x512 .i8) (ix2 k l)
    = (inp m c).C k (col t.val l.val) := by
  unfold iblk
  rw [View.read_apply]
  show V m c main_arg3 _ = m (c.tc.loc main_arg3) _
  rw [V_main_arg3]
  refine congrArg _ (funext fun a => Fin.ext ?_)
  match a with
  | ⟨0, _⟩ => show win0_5.index t 0 * 3584 + 1 * k.val = k.val; rw [(idx5 t).1]; omega
  | ⟨1, _⟩ => show win0_5.index t 1 * 512 + 1 * l.val = (col t.val l.val).val; rw [(idx5 t).2, col_val]; omega

/-- The scales. -/
theorem blk6 (k : Fin 56) (l : Fin 512) : (iblk m c 6 t : Vec Ideal S56x512 .bf16) (ix2 k l)
    = (inp m c).S k (col t.val l.val) := by
  unfold iblk
  rw [View.read_apply]
  show V m c main_arg4 _ = m (c.tc.loc main_arg4) _
  rw [V_main_arg4]
  refine congrArg _ (funext fun a => Fin.ext ?_)
  match a with
  | ⟨0, _⟩ => show win0_6.index t 0 * 56 + 1 * k.val = k.val; rw [(idx6 t).1]; omega
  | ⟨1, _⟩ => show win0_6.index t 1 * 512 + 1 * l.val = (col t.val l.val).val; rw [(idx6 t).2, col_val]; omega

/-- The up-projection factor. -/
theorem blk7 (r : Fin 160) (l : Fin 512) : (iblk m c 7 t : Vec Ideal S160x512 .bf16) (ix2 r l)
    = (inp m c).B r (col t.val l.val) := by
  unfold iblk
  rw [View.read_apply]
  show V m c main_arg6 _ = m (c.tc.loc main_arg6) _
  rw [V_main_arg6]
  refine congrArg _ (funext fun a => Fin.ext ?_)
  match a with
  | ⟨0, _⟩ => show win0_7.index t 0 * 160 + 1 * r.val = r.val; rw [(idx7 t).1]; omega
  | ⟨1, _⟩ => show win0_7.index t 1 * 512 + 1 * l.val = (col t.val l.val).val; rw [(idx7 t).2, col_val]; omega

end Cert.KernelIdeal.Hand
-- ==== Proof.Cases.lean ====
/-
  What each case of the body leaves in the outputs and in the carried buffers, as the payloads of its stores over the
  blocks it reads: case A at the first point, case B in the middle, case C at the last point.
-/
module

public import proofs.«01_k».proof.Proof.Blocks

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

/-- The row numbers within one sequence. -/
def rows : IVec S128x1 32 := iota .tc S128x1 32 [0] iota_S128x1_d0_w32

section Cases

variable (c : Dev nD) (i : grid0.Coords)
  (arg1 : Memref sig .tc .smem S2 .i32) (harg1 : arg1.IsWhole)
  (arg2 : Memref sig .tc .vmem S256x7168 .bf16) (harg2 : arg2.IsWhole)
  (arg3 : Memref sig .tc .vmem S7168x160 .bf16) (harg3 : arg3.IsWhole)
  (arg4 : Memref sig .tc .vmem S3584x512 .bf16) (harg4 : arg4.IsWhole)
  (arg5 : Memref sig .tc .vmem S3584x512 .bf16) (harg5 : arg5.IsWhole)
  (arg6 : Memref sig .tc .vmem S3584x512 .i8) (harg6 : arg6.IsWhole)
  (arg7 : Memref sig .tc .vmem S56x512 .bf16) (harg7 : arg7.IsWhole)
  (arg8 : Memref sig .tc .vmem S160x512 .bf16) (harg8 : arg8.IsWhole)
  (arg9 : Memref sig .tc .vmem S2x128 .f32) (harg9 : arg9.IsWhole)
  (arg10 : Memref sig .tc .vmem S256x160 .f32) (harg10 : arg10.IsWhole)
  (arg11 : Memref sig .tc .vmem S7168x160 .f32) (harg11 : arg11.IsWhole)
  (arg12 : Memref sig .tc .vmem S160x512 .f32) (harg12 : arg12.IsWhole)
  (arg13 : Memref sig .tc .vmem S7168x512 .bf16) (harg13 : arg13.IsWhole)
  (arg14 : Memref sig .tc .vmem S256x160 .bf16) (harg14 : arg14.IsWhole)
  (arg15 : Memref sig .tc .vmem S256x128 .f32) (harg15 : arg15.IsWhole)
  (x0 : Vec Ideal S2 .i32) (x1 : Vec Ideal S256x7168 .bf16) (x2 : Vec Ideal S7168x160 .bf16)
  (x3 : Vec Ideal S3584x512 .bf16) (x4 : Vec Ideal S3584x512 .bf16) (x5 : Vec Ideal S3584x512 .i8)
  (x6 : Vec Ideal S56x512 .bf16) (x7 : Vec Ideal S160x512 .bf16)
  (xo9 : Vec Ideal S256x160 .f32) (xs1 : Vec Ideal S256x160 .bf16) (xs2 : Vec Ideal S256x128 .f32)

/-- Case A reads the error block back whole. -/
theorem err_A : kernelRun0_A.sl.v707 (F := Ideal) c arg4 harg4 arg5 harg5 arg6 harg6 arg7 harg7 arg13 x3 x4 x5 x6 = EV x3 x4 x5 x6 := by
  unfold kernelRun0_A.sl.v707
  rw [View.readCov_eq_canon', canon_A c arg4 harg4 arg5 harg5 arg6 harg6 arg7 harg7 x3 x4 x5 x6]
  exact View.ld_unit_zero (S := S7168x512) hz _ _

/-- The first length word case A reads. -/
theorem len0_A : kernelRun0_A.sl.r_30 (F := Ideal) c arg1 harg1 x0 = x0 (ix1 0) := by
  unfold kernelRun0_A.sl.r_30
  rw [View.readAt_eq_ld, harg1.read_unread]
  exact congrArg x0 (funext fun a => by fin_cases a; rfl)

/-- The second length word case A reads. -/
theorem len1_A : kernelRun0_A.sl.r_33 (F := Ideal) c arg1 harg1 x0 = x0 (ix1 1) := by
  unfold kernelRun0_A.sl.r_33
  rw [View.readAt_eq_ld, harg1.read_unread]
  exact congrArg x0 (funext fun a => by fin_cases a; rfl)

/-- Case B reads the error block back whole. -/
theorem err_B : kernelRun0_B.sl.v707 (F := Ideal) c arg4 harg4 arg5 harg5 arg6 harg6 arg7 harg7 arg13 x3 x4 x5 x6 = EV x3 x4 x5 x6 := by
  unfold kernelRun0_B.sl.v707
  rw [View.readCov_eq_canon', canon_B c arg4 harg4 arg5 harg5 arg6 harg6 arg7 harg7 x3 x4 x5 x6]
  exact View.ld_unit_zero (S := S7168x512) hz _ _

/-- The first length word case B reads. -/
theorem len0_B : kernelRun0_B.sl.r_30 (F := Ideal) c arg1 harg1 x0 = x0 (ix1 0) := by
  unfold kernelRun0_B.sl.r_30
  rw [View.readAt_eq_ld, harg1.read_unread]
  exact congrArg x0 (funext fun a => by fin_cases a; rfl)

/-- The second length word case B reads. -/
theorem len1_B : kernelRun0_B.sl.r_34 (F := Ideal) c arg1 harg1 x0 = x0 (ix1 1) := by
  unfold kernelRun0_B.sl.r_34
  rw [View.readAt_eq_ld, harg1.read_unread]
  exact congrArg x0 (funext fun a => by fin_cases a; rfl)

/-- Case C reads the error block back whole. -/
theorem err_C : kernelRun0_C.sl.v707 (F := Ideal) c arg4 harg4 arg5 harg5 arg6 harg6 arg7 harg7 arg13 x3 x4 x5 x6 = EV x3 x4 x5 x6 := by
  unfold kernelRun0_C.sl.v707
  rw [View.readCov_eq_canon', canon_C c arg4 harg4 arg5 harg5 arg6 harg6 arg7 harg7 x3 x4 x5 x6]
  exact View.ld_unit_zero (S := S7168x512) hz _ _

/-- The first length word case C reads. -/
theorem len0_C : kernelRun0_C.sl.r_30 (F := Ideal) c arg1 harg1 x0 = x0 (ix1 0) := by
  unfold kernelRun0_C.sl.r_30
  rw [View.readAt_eq_ld, harg1.read_unread]
  exact congrArg x0 (funext fun a => by fin_cases a; rfl)

/-- The second length word case C reads. -/
theorem len1_C : kernelRun0_C.sl.r_34 (F := Ideal) c arg1 harg1 x0 = x0 (ix1 1) := by
  unfold kernelRun0_C.sl.r_34
  rw [View.readAt_eq_ld, harg1.read_unread]
  exact congrArg x0 (funext fun a => by fin_cases a; rfl)

/-- The down-projection case A stores and reads back. -/
theorem pb_A : kernelRun0_A.sl.v703 (F := Ideal) c arg2 harg2 arg3 harg3 arg14 x1 x2 = k0_pay13 x1 x2 := by
  unfold kernelRun0_A.sl.v703 kernelRun0_A.sl.HS1_1
  rw [View.readCov_unit_zero (S := S256x160) _ hz]
  simp only [View.readAt_eq_ld, harg2.read_unread, harg3.read_unread, View.ld_unit_zero (S := S256x7168) hz,
    View.ld_unit_zero (S := S7168x160) hz]

/-- The unmasked residual of case A. -/
theorem pre_A : kernelRun0_A.sl.r_32 (F := Ideal) c arg2 harg2 arg3 harg3 arg4 harg4 arg5 harg5 arg6 harg6 arg7 harg7 arg8 harg8 arg13 arg14 x1 x2 x3 x4 x5 x6 x7
    = k0_pay90 (k0_pay13 x1 x2) x7 x1 (EV x3 x4 x5 x6) := by
  unfold kernelRun0_A.sl.r_32
  rw [pb_A, err_A]
  simp only [View.readAt_eq_ld, harg2.read_unread, harg8.read_unread, View.ld_unit_zero (S := S256x7168) hz,
    View.ld_unit_zero (S := S160x512) hz]

/-- The unmasked residual of case B. -/
theorem pre_B : kernelRun0_B.sl.r_33 (F := Ideal) c arg2 harg2 arg4 harg4 arg5 harg5 arg6 harg6 arg7 harg7 arg8 harg8 arg13 arg14 harg14 x1 x3 x4 x5 x6 x7 xs1
    = k0_pay90 xs1 x7 x1 (EV x3 x4 x5 x6) := by
  unfold kernelRun0_B.sl.r_33
  rw [err_B]
  simp only [View.readAt_eq_ld, harg2.read_unread, harg8.read_unread, harg14.read_unread, View.ld_unit_zero (S := S256x7168) hz,
    View.ld_unit_zero (S := S160x512) hz, View.ld_unit_zero (S := S256x160) hz]

/-- The unmasked residual of case C. -/
theorem pre_C : kernelRun0_C.sl.r_33 (F := Ideal) c arg2 harg2 arg4 harg4 arg5 harg5 arg6 harg6 arg7 harg7 arg8 harg8 arg13 arg14 harg14 x1 x3 x4 x5 x6 x7 xs1
    = k0_pay90 xs1 x7 x1 (EV x3 x4 x5 x6) := by
  unfold kernelRun0_C.sl.r_33
  rw [err_C]
  simp only [View.readAt_eq_ld, harg2.read_unread, harg8.read_unread, harg14.read_unread, View.ld_unit_zero (S := S256x7168) hz,
    View.ld_unit_zero (S := S160x512) hz, View.ld_unit_zero (S := S256x160) hz]

variable (hc0 : cond0_0 i) (hc1 : ¬cond0_1 i) in
/-- Case A leaves the down-projection in its buffer. -/
theorem sout_A_1 : sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 = k0_pay13 x1 x2 := by
  unfold sout0_A_1
  rw [View.read_writes_junk_eq_canon]
  unfold kernelRun0_A
  dsimp only
  unfold kernelRun0_A.sl.HS1_1
  rw [View.canon_cons_unit_zero (S := S256x160) hz]
  simp only [View.readAt_eq_ld, harg2.read_unread, harg3.read_unread, View.ld_unit_zero (S := S256x7168) hz,
    View.ld_unit_zero (S := S7168x160) hz]

variable (hc0 : cond0_0 i) (hc1 : ¬cond0_1 i) in
/-- Case A leaves its squares, added to zero, in the loss accumulator. -/
theorem sout_A_2 : sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7
    = k0_pay92 (k0_pay90 (k0_pay13 x1 x2) x7 x1 (EV x3 x4 x5 x6)) rows (x0 (ix1 0)) (x0 (ix1 1)) (k0_pay14 (F := Ideal)) := by
  unfold sout0_A_2
  rw [View.read_writes_junk_eq_canon]
  unfold kernelRun0_A
  dsimp only
  rw [View.canon_cons_unit_zero (S := S256x128) hz]
  unfold kernelRun0_A.sl.v731 kernelRun0_A.sl.HS2_1
  rw [pre_A, len0_A, len1_A, View.readCov_unit_zero (S := S256x128) _ hz]
  rfl

variable (hc0 : cond0_0 i) (hc1 : ¬cond0_1 i) in
/-- Case A leaves its contribution, added to zero, in the block of `g`. -/
theorem out_A_9 : out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7
    = k0_pay94 x7 (k0_pay90 (k0_pay13 x1 x2) x7 x1 (EV x3 x4 x5 x6)) rows (x0 (ix1 0)) (x0 (ix1 1)) (k0_pay15 (F := Ideal)) := by
  unfold out0_A_9
  rw [View.read_writes_junk_eq_canon]
  unfold kernelRun0_A
  dsimp only
  rw [View.canon_cons_unit_zero (S := S256x160) hz]
  unfold kernelRun0_A.sl.r_35 kernelRun0_A.sl.v737 kernelRun0_A.sl.H9_1 kernelRun0_A.sl.r_31
  rw [pre_A, len0_A, len1_A, View.readCov_unit_zero (S := S256x160) _ hz]
  simp only [View.readAt_eq_ld, harg8.read_unread, View.ld_unit_zero (S := S160x512) hz]
  rfl

variable (hc0 : cond0_0 i) (hc1 : ¬cond0_1 i) in
/-- Case A's block of `d_b`. -/
theorem out_A_11 : out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7
    = k0_pay1 (k0_pay13 x1 x2) (k0_pay93 (k0_pay90 (k0_pay13 x1 x2) x7 x1 (EV x3 x4 x5 x6)) rows (x0 (ix1 0)) (x0 (ix1 1))) := by
  unfold out0_A_11
  rw [View.read_writes_junk_eq_canon]
  unfold kernelRun0_A
  dsimp only
  rw [View.canon_cons_unit_zero (S := S160x512) hz]
  unfold kernelRun0_A.sl.r_34
  rw [pb_A, pre_A, len0_A, len1_A]
  rfl

variable (hc0 : ¬cond0_0 i) (hc1 : ¬cond0_1 i) in
/-- Case B leaves the down-projection as it was. -/
theorem sout_B_1 : sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo9 xs1 xs2 = xs1 := by
  unfold sout0_B_1
  first | rfl | exact harg14.read_unread _

variable (hc0 : ¬cond0_0 i) (hc1 : ¬cond0_1 i) in
/-- Case B adds its squares to the loss accumulator. -/
theorem sout_B_2 : sout0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo9 xs1 xs2
    = k0_pay92 (k0_pay90 xs1 x7 x1 (EV x3 x4 x5 x6)) rows (x0 (ix1 0)) (x0 (ix1 1)) xs2 := by
  unfold sout0_B_2
  rw [View.read_writes_junk_eq_canon]
  unfold kernelRun0_B
  dsimp only
  try unfold kernelRun0_B.sl.HS2_1
  rw [View.canon_cons_unit_zero (S := S256x128) hz, pre_B, len0_B, len1_B]
  simp only [View.readAt_eq_ld, harg15.read_unread, View.ld_unit_zero (S := S256x128) hz]
  rfl

/-- Case B's sum of `g`, as the run names it. -/
theorem g_B : kernelRun0_B.sl.r_36 (F := Ideal) c arg1 harg1 arg2 harg2 arg4 harg4 arg5 harg5 arg6 harg6 arg7 harg7 arg8 harg8 arg10 harg10 arg13 arg14 harg14 x0 x1 x3 x4 x5 x6 x7 xo9 xs1
    = k0_pay94 x7 (k0_pay90 xs1 x7 x1 (EV x3 x4 x5 x6)) rows (x0 (ix1 0)) (x0 (ix1 1)) xo9 := by
  unfold kernelRun0_B.sl.r_36 kernelRun0_B.sl.r_32
  rw [pre_B, len0_B, len1_B]
  simp only [View.readAt_eq_ld, harg8.read_unread, harg10.read_unread, View.ld_unit_zero (S := S160x512) hz,
    View.ld_unit_zero (S := S256x160) hz]
  rfl

variable (hc0 : ¬cond0_0 i) (hc1 : ¬cond0_1 i) in
/-- Case B adds its contribution to the block of `g`. -/
theorem out_B_9 : out0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo9 xs1 xs2
    = k0_pay94 x7 (k0_pay90 xs1 x7 x1 (EV x3 x4 x5 x6)) rows (x0 (ix1 0)) (x0 (ix1 1)) xo9 := by
  unfold out0_B_9
  rw [View.read_writes_junk_eq_canon]
  unfold kernelRun0_B
  dsimp only
  try unfold kernelRun0_B.sl.H9_1
  exact (View.canon_cons_unit_zero (S := S256x160) hz _ _ _).trans (g_B ..)

variable (hc0 : ¬cond0_0 i) (hc1 : ¬cond0_1 i) in
/-- Case B's block of `d_b`. -/
theorem out_B_11 : out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo9 xs1 xs2
    = k0_pay1 xs1 (k0_pay93 (k0_pay90 xs1 x7 x1 (EV x3 x4 x5 x6)) rows (x0 (ix1 0)) (x0 (ix1 1))) := by
  unfold out0_B_11
  rw [View.read_writes_junk_eq_canon]
  unfold kernelRun0_B
  dsimp only
  rw [View.canon_cons_unit_zero (S := S160x512) hz]
  unfold kernelRun0_B.sl.r_35 kernelRun0_B.sl.r_31
  rw [pre_B, len0_B, len1_B]
  simp only [View.readAt_eq_ld, harg14.read_unread, View.ld_unit_zero (S := S256x160) hz]
  rfl

variable (hc0 : ¬cond0_0 i) (hc1 : cond0_1 i) in
/-- Case C leaves the down-projection as it was. -/
theorem sout_C_1 : sout0_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo9 xs1 xs2 = xs1 := by
  unfold sout0_C_1
  first | rfl | exact harg14.read_unread _

variable (hc0 : ¬cond0_0 i) (hc1 : cond0_1 i) in
/-- Case C adds its squares to the loss accumulator. -/
theorem sout_C_2 : sout0_C_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo9 xs1 xs2
    = k0_pay92 (k0_pay90 xs1 x7 x1 (EV x3 x4 x5 x6)) rows (x0 (ix1 0)) (x0 (ix1 1)) xs2 := by
  unfold sout0_C_2
  rw [View.read_writes_junk_eq_canon]
  unfold kernelRun0_C
  dsimp only
  try unfold kernelRun0_C.sl.HS2_1
  rw [View.canon_cons_unit_zero (S := S256x128) hz, pre_C, len0_C, len1_C]
  simp only [View.readAt_eq_ld, harg15.read_unread, View.ld_unit_zero (S := S256x128) hz]
  rfl

/-- Case C's sum of `g`, as the run names it. -/
theorem g_C : kernelRun0_C.sl.r_36 (F := Ideal) c arg1 harg1 arg2 harg2 arg4 harg4 arg5 harg5 arg6 harg6 arg7 harg7 arg8 harg8 arg10 harg10 arg13 arg14 harg14 x0 x1 x3 x4 x5 x6 x7 xo9 xs1
    = k0_pay94 x7 (k0_pay90 xs1 x7 x1 (EV x3 x4 x5 x6)) rows (x0 (ix1 0)) (x0 (ix1 1)) xo9 := by
  unfold kernelRun0_C.sl.r_36 kernelRun0_C.sl.r_32
  rw [pre_C, len0_C, len1_C]
  simp only [View.readAt_eq_ld, harg8.read_unread, harg10.read_unread, View.ld_unit_zero (S := S160x512) hz,
    View.ld_unit_zero (S := S256x160) hz]
  rfl

variable (hc0 : ¬cond0_0 i) (hc1 : cond0_1 i) in
/-- Case C adds its contribution to the block of `g`. -/
theorem out_C_9 : out0_C_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo9 xs1 xs2
    = k0_pay94 x7 (k0_pay90 xs1 x7 x1 (EV x3 x4 x5 x6)) rows (x0 (ix1 0)) (x0 (ix1 1)) xo9 := by
  unfold out0_C_9
  rw [View.read_writes_junk_eq_canon]
  unfold kernelRun0_C
  dsimp only
  try unfold kernelRun0_C.sl.H9_1
  exact (View.canon_cons_unit_zero (S := S256x160) hz _ _ _).trans (g_C ..)

variable (hc0 : ¬cond0_0 i) (hc1 : cond0_1 i) in
/-- Case C's block of `d_b`. -/
theorem out_C_11 : out0_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo9 xs1 xs2
    = k0_pay1 xs1 (k0_pay93 (k0_pay90 xs1 x7 x1 (EV x3 x4 x5 x6)) rows (x0 (ix1 0)) (x0 (ix1 1))) := by
  unfold out0_C_11
  rw [View.read_writes_junk_eq_canon]
  unfold kernelRun0_C
  dsimp only
  rw [View.canon_cons_unit_zero (S := S160x512) hz]
  unfold kernelRun0_C.sl.r_35 kernelRun0_C.sl.r_31
  rw [pre_C, len0_C, len1_C]
  simp only [View.readAt_eq_ld, harg14.read_unread, View.ld_unit_zero (S := S256x160) hz]
  rfl

end Cases

end Cert.KernelIdeal.Hand
-- ==== Proof.CasesC.lean ====
/-
  What the last point alone writes: the loss, summed over the lanes of the accumulator, and `d_a`, from the finished `g`.
-/
module

public import proofs.«01_k».proof.Proof.Cases

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

/-- The loss block: lane sums of the accumulator. -/
def lossOut (acc : Vec Ideal S256x128 .f32) (y : S2x128.Idx) : Elt Ideal .f32 :=
  have h0 : (y 0).val < 2 := (y 0).isLt
  have h1 : (y 1).val < 128 := (y 1).isLt
  ∑ x : Fin 128, acc (ix2 ⟨128 * (y 0).val + (y 1).val, by omega⟩ x)

/-- The `d_a` block: minus two times the activations against `g`. -/
def daOut (x1 : Vec Ideal S256x7168 .bf16) (g : Vec Ideal S256x160 .f32) (y : S7168x160.Idx) : Elt Ideal .f32 :=
  Ideal.ofBits .f32 3221225472#32 * ∑ m : Fin 256, x1 (ix2 m (y 0)) * g (ix2 m (y 1))

/-- The rounded `g` is `g`. -/
theorem pay9 (g : Vec Ideal S256x160 .f32) (y : S256x160.Idx) : k0_pay9 (F := Ideal) g y = g y := by
  obtain ⟨p, q, rfl⟩ : ∃ (p : Fin 256) (q : Fin 160), y = ix2 p q := ⟨y 0, y 1, by funext a; fin_cases a <;> rfl⟩
  pointwise [k0_pay9]

theorem loss_lo (acc : Vec Ideal S256x128 .f32) (h : ∀ a, (![0, 0] : Fin 2 → Nat) a + S128x128.size a ≤ S256x128.size a)
    (hE : ∀ a, (![0, 0] : Fin 2 → Nat) a + S1x128.size a ≤ S2x128.size a) (x : S1x128.Idx) :
    k0_pay7 (F := Ideal) (View.ld acc (Rect.unit (s := S256x128) ![0, 0] S128x128.size h)) x
      = lossOut acc ((Rect.unit (s := S2x128) ![0, 0] S1x128.size hE).emb x) := by
  obtain ⟨q, rfl⟩ : ∃ q : Fin 128, x = ix2 0 q := ⟨x 1, by
    have h0 : (x 0).val < 1 := (x 0).isLt
    funext a; apply Fin.ext; fin_cases a
    · show (x 0).val = 0; omega
    · rfl⟩
  have eE : (Rect.unit (s := S2x128) ![0, 0] S1x128.size hE).emb (ix2 0 q) = ix2 (0 : Fin 2) q := by
    funext a; apply Fin.ext; rw [Rect.emb_apply]; fin_cases a <;> simp
  rw [eE]
  unfold lossOut
  pointwise [k0_pay7]

theorem loss_hi (acc : Vec Ideal S256x128 .f32) (h : ∀ a, (![128, 0] : Fin 2 → Nat) a + S128x128.size a ≤ S256x128.size a)
    (hE : ∀ a, (![1, 0] : Fin 2 → Nat) a + S1x128.size a ≤ S2x128.size a) (x : S1x128.Idx) :
    k0_pay8 (F := Ideal) (View.ld acc (Rect.unit (s := S256x128) ![128, 0] S128x128.size h)) x
      = lossOut acc ((Rect.unit (s := S2x128) ![1, 0] S1x128.size hE).emb x) := by
  obtain ⟨q, rfl⟩ : ∃ q : Fin 128, x = ix2 0 q := ⟨x 1, by
    have h0 : (x 0).val < 1 := (x 0).isLt
    funext a; apply Fin.ext; fin_cases a
    · show (x 0).val = 0; omega
    · rfl⟩
  have eE : (Rect.unit (s := S2x128) ![1, 0] S1x128.size hE).emb (ix2 0 q) = ix2 (1 : Fin 2) q := by
    funext a; apply Fin.ext; rw [Rect.emb_apply]; fin_cases a <;> simp
  rw [eE]
  unfold lossOut
  pointwise [k0_pay8]

theorem da_3 (x1 : Vec Ideal S256x7168 .bf16) (g : Vec Ideal S256x160 .f32) (o : Nat)
    (h : ∀ a, (![0, o] : Fin 2 → Nat) a + S256x1024.size a ≤ S256x7168.size a)
    (hE : ∀ a, (![o, 0] : Fin 2 → Nat) a + S1024x160.size a ≤ S7168x160.size a) (x : S1024x160.Idx) :
    k0_pay3 (F := Ideal) (k0_pay9 g) (View.ld x1 (Rect.unit (s := S256x7168) ![0, o] S256x1024.size h)) x
      = daOut x1 g ((Rect.unit (s := S7168x160) ![o, 0] S1024x160.size hE).emb x) := by
  obtain ⟨p, q, rfl⟩ : ∃ (p : Fin 1024) (q : Fin 160), x = ix2 p q := ⟨x 0, x 1, by funext a; fin_cases a <;> rfl⟩
  have ho : o + 1024 ≤ 7168 := hE 0
  have hp := p.isLt
  have eE : (Rect.unit (s := S7168x160) ![o, 0] S1024x160.size hE).emb (ix2 p q) = ix2 (⟨o + p.val, by omega⟩ : Fin 7168) q := by
    funext a; apply Fin.ext; rw [Rect.emb_apply]; fin_cases a <;> simp
  rw [eE]
  unfold daOut
  pointwise [k0_pay3, dot_S256x1024_S256x160_S1024x160_0_0_1_1_n_n]
  simp only [pay9]

theorem da_4 (x1 : Vec Ideal S256x7168 .bf16) (g : Vec Ideal S256x160 .f32) (o : Nat)
    (h : ∀ a, (![0, o] : Fin 2 → Nat) a + S256x1024.size a ≤ S256x7168.size a)
    (hE : ∀ a, (![o, 0] : Fin 2 → Nat) a + S1024x160.size a ≤ S7168x160.size a) (x : S1024x160.Idx) :
    k0_pay4 (F := Ideal) (k0_pay9 g) (View.ld x1 (Rect.unit (s := S256x7168) ![0, o] S256x1024.size h)) x
      = daOut x1 g ((Rect.unit (s := S7168x160) ![o, 0] S1024x160.size hE).emb x) := by
  obtain ⟨p, q, rfl⟩ : ∃ (p : Fin 1024) (q : Fin 160), x = ix2 p q := ⟨x 0, x 1, by funext a; fin_cases a <;> rfl⟩
  have ho : o + 1024 ≤ 7168 := hE 0
  have hp := p.isLt
  have eE : (Rect.unit (s := S7168x160) ![o, 0] S1024x160.size hE).emb (ix2 p q) = ix2 (⟨o + p.val, by omega⟩ : Fin 7168) q := by
    funext a; apply Fin.ext; rw [Rect.emb_apply]; fin_cases a <;> simp
  rw [eE]
  unfold daOut
  pointwise [k0_pay4, dot_S256x1024_S256x160_S1024x160_0_0_1_1_n_n]
  simp only [pay9]

theorem da_5 (x1 : Vec Ideal S256x7168 .bf16) (g : Vec Ideal S256x160 .f32) (o : Nat)
    (h : ∀ a, (![0, o] : Fin 2 → Nat) a + S256x1024.size a ≤ S256x7168.size a)
    (hE : ∀ a, (![o, 0] : Fin 2 → Nat) a + S1024x160.size a ≤ S7168x160.size a) (x : S1024x160.Idx) :
    k0_pay5 (F := Ideal) (k0_pay9 g) (View.ld x1 (Rect.unit (s := S256x7168) ![0, o] S256x1024.size h)) x
      = daOut x1 g ((Rect.unit (s := S7168x160) ![o, 0] S1024x160.size hE).emb x) := by
  obtain ⟨p, q, rfl⟩ : ∃ (p : Fin 1024) (q : Fin 160), x = ix2 p q := ⟨x 0, x 1, by funext a; fin_cases a <;> rfl⟩
  have ho : o + 1024 ≤ 7168 := hE 0
  have hp := p.isLt
  have eE : (Rect.unit (s := S7168x160) ![o, 0] S1024x160.size hE).emb (ix2 p q) = ix2 (⟨o + p.val, by omega⟩ : Fin 7168) q := by
    funext a; apply Fin.ext; rw [Rect.emb_apply]; fin_cases a <;> simp
  rw [eE]
  unfold daOut
  pointwise [k0_pay5, dot_S256x1024_S256x160_S1024x160_0_0_1_1_n_n]
  simp only [pay9]

theorem da_6 (x1 : Vec Ideal S256x7168 .bf16) (g : Vec Ideal S256x160 .f32) (o : Nat)
    (h : ∀ a, (![0, o] : Fin 2 → Nat) a + S256x1024.size a ≤ S256x7168.size a)
    (hE : ∀ a, (![o, 0] : Fin 2 → Nat) a + S1024x160.size a ≤ S7168x160.size a) (x : S1024x160.Idx) :
    k0_pay6 (F := Ideal) (k0_pay9 g) (View.ld x1 (Rect.unit (s := S256x7168) ![0, o] S256x1024.size h)) x
      = daOut x1 g ((Rect.unit (s := S7168x160) ![o, 0] S1024x160.size hE).emb x) := by
  obtain ⟨p, q, rfl⟩ : ∃ (p : Fin 1024) (q : Fin 160), x = ix2 p q := ⟨x 0, x 1, by funext a; fin_cases a <;> rfl⟩
  have ho : o + 1024 ≤ 7168 := hE 0
  have hp := p.isLt
  have eE : (Rect.unit (s := S7168x160) ![o, 0] S1024x160.size hE).emb (ix2 p q) = ix2 (⟨o + p.val, by omega⟩ : Fin 7168) q := by
    funext a; apply Fin.ext; rw [Rect.emb_apply]; fin_cases a <;> simp
  rw [eE]
  unfold daOut
  pointwise [k0_pay6, dot_S256x1024_S256x160_S1024x160_0_0_1_1_n_n]
  simp only [pay9]

theorem da_10 (x1 : Vec Ideal S256x7168 .bf16) (g : Vec Ideal S256x160 .f32) (o : Nat)
    (h : ∀ a, (![0, o] : Fin 2 → Nat) a + S256x1024.size a ≤ S256x7168.size a)
    (hE : ∀ a, (![o, 0] : Fin 2 → Nat) a + S1024x160.size a ≤ S7168x160.size a) (x : S1024x160.Idx) :
    k0_pay10 (F := Ideal) g (View.ld x1 (Rect.unit (s := S256x7168) ![0, o] S256x1024.size h)) x
      = daOut x1 g ((Rect.unit (s := S7168x160) ![o, 0] S1024x160.size hE).emb x) := by
  obtain ⟨p, q, rfl⟩ : ∃ (p : Fin 1024) (q : Fin 160), x = ix2 p q := ⟨x 0, x 1, by funext a; fin_cases a <;> rfl⟩
  have ho : o + 1024 ≤ 7168 := hE 0
  have hp := p.isLt
  have eE : (Rect.unit (s := S7168x160) ![o, 0] S1024x160.size hE).emb (ix2 p q) = ix2 (⟨o + p.val, by omega⟩ : Fin 7168) q := by
    funext a; apply Fin.ext; rw [Rect.emb_apply]; fin_cases a <;> simp
  rw [eE]
  unfold daOut
  pointwise [k0_pay10, dot_S256x1024_S256x160_S1024x160_0_0_1_1_n_n]
  simp only [pay9]

theorem da_11 (x1 : Vec Ideal S256x7168 .bf16) (g : Vec Ideal S256x160 .f32) (o : Nat)
    (h : ∀ a, (![0, o] : Fin 2 → Nat) a + S256x1024.size a ≤ S256x7168.size a)
    (hE : ∀ a, (![o, 0] : Fin 2 → Nat) a + S1024x160.size a ≤ S7168x160.size a) (x : S1024x160.Idx) :
    k0_pay11 (F := Ideal) g (View.ld x1 (Rect.unit (s := S256x7168) ![0, o] S256x1024.size h)) x
      = daOut x1 g ((Rect.unit (s := S7168x160) ![o, 0] S1024x160.size hE).emb x) := by
  obtain ⟨p, q, rfl⟩ : ∃ (p : Fin 1024) (q : Fin 160), x = ix2 p q := ⟨x 0, x 1, by funext a; fin_cases a <;> rfl⟩
  have ho : o + 1024 ≤ 7168 := hE 0
  have hp := p.isLt
  have eE : (Rect.unit (s := S7168x160) ![o, 0] S1024x160.size hE).emb (ix2 p q) = ix2 (⟨o + p.val, by omega⟩ : Fin 7168) q := by
    funext a; apply Fin.ext; rw [Rect.emb_apply]; fin_cases a <;> simp
  rw [eE]
  unfold daOut
  pointwise [k0_pay11, dot_S256x1024_S256x160_S1024x160_0_0_1_1_n_n]
  simp only [pay9]

theorem da_2 (x1 : Vec Ideal S256x7168 .bf16) (g : Vec Ideal S256x160 .f32) (o : Nat)
    (h : ∀ a, (![0, o] : Fin 2 → Nat) a + S256x1024.size a ≤ S256x7168.size a)
    (hE : ∀ a, (![o, 0] : Fin 2 → Nat) a + S1024x160.size a ≤ S7168x160.size a) (x : S1024x160.Idx) :
    k0_pay2 (F := Ideal) (k0_pay12 g (View.ld x1 (Rect.unit (s := S256x7168) ![0, o] S256x1024.size h)))
        (FloatOps.ofBits .f32 3221225472#32) x
      = daOut x1 g ((Rect.unit (s := S7168x160) ![o, 0] S1024x160.size hE).emb x) := by
  obtain ⟨p, q, rfl⟩ : ∃ (p : Fin 1024) (q : Fin 160), x = ix2 p q := ⟨x 0, x 1, by funext a; fin_cases a <;> rfl⟩
  have ho : o + 1024 ≤ 7168 := hE 0
  have hp := p.isLt
  have eE : (Rect.unit (s := S7168x160) ![o, 0] S1024x160.size hE).emb (ix2 p q) = ix2 (⟨o + p.val, by omega⟩ : Fin 7168) q := by
    funext a; apply Fin.ext; rw [Rect.emb_apply]; fin_cases a <;> simp
  rw [eE]
  unfold daOut
  pointwise [k0_pay2, k0_pay12, dot_S256x1024_S256x160_S1024x160_0_0_1_1_n_n]
  simp only [pay9]

section Cases

variable (c : Dev nD) (i : grid0.Coords)
  (arg1 : Memref sig .tc .smem S2 .i32) (harg1 : arg1.IsWhole)
  (arg2 : Memref sig .tc .vmem S256x7168 .bf16) (harg2 : arg2.IsWhole)
  (arg3 : Memref sig .tc .vmem S7168x160 .bf16) (harg3 : arg3.IsWhole)
  (arg4 : Memref sig .tc .vmem S3584x512 .bf16) (harg4 : arg4.IsWhole)
  (arg5 : Memref sig .tc .vmem S3584x512 .bf16) (harg5 : arg5.IsWhole)
  (arg6 : Memref sig .tc .vmem S3584x512 .i8) (harg6 : arg6.IsWhole)
  (arg7 : Memref sig .tc .vmem S56x512 .bf16) (harg7 : arg7.IsWhole)
  (arg8 : Memref sig .tc .vmem S160x512 .bf16) (harg8 : arg8.IsWhole)
  (arg9 : Memref sig .tc .vmem S2x128 .f32) (harg9 : arg9.IsWhole)
  (arg10 : Memref sig .tc .vmem S256x160 .f32) (harg10 : arg10.IsWhole)
  (arg11 : Memref sig .tc .vmem S7168x160 .f32) (harg11 : arg11.IsWhole)
  (arg12 : Memref sig .tc .vmem S160x512 .f32) (harg12 : arg12.IsWhole)
  (arg13 : Memref sig .tc .vmem S7168x512 .bf16) (harg13 : arg13.IsWhole)
  (arg14 : Memref sig .tc .vmem S256x160 .bf16) (harg14 : arg14.IsWhole)
  (arg15 : Memref sig .tc .vmem S256x128 .f32) (harg15 : arg15.IsWhole)
  (x0 : Vec Ideal S2 .i32) (x1 : Vec Ideal S256x7168 .bf16) (x2 : Vec Ideal S7168x160 .bf16)
  (x3 : Vec Ideal S3584x512 .bf16) (x4 : Vec Ideal S3584x512 .bf16) (x5 : Vec Ideal S3584x512 .i8)
  (x6 : Vec Ideal S56x512 .bf16) (x7 : Vec Ideal S160x512 .bf16)
  (xo9 : Vec Ideal S256x160 .f32) (xs1 : Vec Ideal S256x160 .bf16) (xs2 : Vec Ideal S256x128 .f32)

variable (hc0 : ¬cond0_0 i) (hc1 : cond0_1 i) in
/-- Case C's loss: the lane sums of the finished accumulator. -/
theorem out_C_8 : out0_C_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo9 xs1 xs2
    = lossOut (k0_pay92 (k0_pay90 xs1 x7 x1 (EV x3 x4 x5 x6)) rows (x0 (ix1 0)) (x0 (ix1 1)) xs2) := by
  have hS := sout_C_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 xo9 xs1 xs2 hc0 hc1
  unfold sout0_C_2 at hS
  rw [View.read_writes_junk_eq_canon] at hS
  unfold out0_C_8
  rw [View.read_writes_junk_eq_canon]
  funext y
  refine View.canon_apply_of_pieces _ _ ?_ y (cover0_C_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo9 xs1 xs2 y)
  unfold kernelRun0_C at hS ⊢
  dsimp only at hS ⊢
  rw [← hS]
  unfold kernelRun0_C.sl.v749 kernelRun0_C.sl.v754
  simp only [View.readCov_eq_canon']
  exact List.forall_mem_cons.2 ⟨fun x => loss_hi (View.canon _) inb_S256x128_S128x128_128_0 inb_S2x128_S1x128_1_0 x,
    List.forall_mem_cons.2 ⟨fun x => loss_lo (View.canon _) inb_S256x128_S128x128_0_0 inb_S2x128_S1x128_0_0 x,
      fun _ h => absurd h List.not_mem_nil⟩⟩

variable (hc0 : ¬cond0_0 i) (hc1 : cond0_1 i) in
/-- Case C's `d_a`: minus two times the activations against the finished `g`. -/
theorem out_C_10 : out0_C_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo9 xs1 xs2
    = daOut x1 (k0_pay94 x7 (k0_pay90 xs1 x7 x1 (EV x3 x4 x5 x6)) rows (x0 (ix1 0)) (x0 (ix1 1)) xo9) := by
  have hS := g_C c arg1 harg1 arg2 harg2 arg4 harg4 arg5 harg5 arg6 harg6 arg7 harg7 arg8 harg8 arg10 harg10 arg13 arg14 harg14 x0 x1 x3 x4 x5 x6 x7 xo9 xs1
  unfold out0_C_10
  rw [View.read_writes_junk_eq_canon]
  funext y
  refine View.canon_apply_of_pieces _ _ ?_ y (cover0_C_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo9 xs1 xs2 y)
  unfold kernelRun0_C
  dsimp only
  unfold kernelRun0_C.sl.r_37 kernelRun0_C.sl.r_38 kernelRun0_C.sl.v759 kernelRun0_C.sl.H9_1 kernelRun0_C.sl.cst_418
  rw [View.readCov_unit_zero (S := S256x160) _ hz, hS]
  simp only [View.readAt_eq_ld, harg2.read_unread]
  exact List.forall_mem_cons.2 ⟨fun x => da_6 x1 _ 6144 inb_S256x7168_S256x1024_0_6144 inb_S7168x160_S1024x160_6144_0 x,
    List.forall_mem_cons.2 ⟨fun x => da_5 x1 _ 5120 inb_S256x7168_S256x1024_0_5120 inb_S7168x160_S1024x160_5120_0 x,
    List.forall_mem_cons.2 ⟨fun x => da_4 x1 _ 4096 inb_S256x7168_S256x1024_0_4096 inb_S7168x160_S1024x160_4096_0 x,

    List.forall_mem_cons.2 ⟨fun x => da_3 x1 _ 3072 inb_S256x7168_S256x1024_0_3072 inb_S7168x160_S1024x160_3072_0 x,
    List.forall_mem_cons.2 ⟨fun x => da_2 x1 _ 2048 inb_S256x7168_S256x1024_0_2048 inb_S7168x160_S1024x160_2048_0 x,
    List.forall_mem_cons.2 ⟨fun x => da_11 x1 _ 1024 inb_S256x7168_S256x1024_0_1024 inb_S7168x160_S1024x160_1024_0 x,

    List.forall_mem_cons.2 ⟨fun x => da_10 x1 _ 0 inb_S256x7168_S256x1024_0_0 inb_S7168x160_S1024x160_0_0 x,
    fun _ h => absurd h List.not_mem_nil⟩⟩⟩⟩⟩⟩⟩

end Cases

end Cert.KernelIdeal.Hand
-- ==== Proof.Steps.lean ====
/-
  One grid point in terms of the mathematics: over the blocks of point `t`, the payloads are the residual's columns of
  that tile, their squares, and their contributions to the gradients.
-/
module

public import proofs.«01_k».proof.Proof.Arrays
public import proofs.«01_k».proof.Proof.CasesC

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable (m : (ℓ : Loc nD τ sig) → Buf (Elt Ideal) ℓ) (c : Dev nD) (t : Fin cfg0.N)

/-- The error block of point `t`. -/
abbrev errBlk : Vec Ideal S7168x512 .bf16 := EV (iblk m c 3 t) (iblk m c 4 t) (iblk m c 5 t) (iblk m c 6 t)

theorem errBlk_apply (k : Fin 7168) (l : Fin 512) : errBlk m c t (ix2 k l) = (inp m c).err k (col t.val l.val) := by
  have hk := k.isLt
  unfold errBlk EV Inp.err
  by_cases h : k.val < 3584
  · rw [dif_pos (show ((ix2 k l : S7168x512.Idx) 0).val < 3584 from h), dif_pos h]
    exact congrArg₂ (· - ·) (blk3 m c t ⟨k.val, h⟩ l) (congrArg₂ (· * ·)
      (congrArg (fun b => FloatOps.sitofp (F := Ideal) .bf16 (loCode b)) (blk5 m c t ⟨k.val, h⟩ l))
      (blk6 m c t ⟨k.val / 128, by omega⟩ l))
  · rw [dif_neg (show ¬((ix2 k l : S7168x512.Idx) 0).val < 3584 from h), dif_neg h]
    have e : (⟨3584 + (k.val - 3584), by omega⟩ : Fin 7168) = k := Fin.ext (by show 3584 + (k.val - 3584) = k.val; omega)
    exact congrArg₂ (· - ·) ((blk4 m c t ⟨k.val - 3584, by omega⟩ l).trans (by rw [e])) (congrArg₂ (· * ·)
      (congrArg (fun b => FloatOps.sitofp (F := Ideal) .bf16 (hiCode b)) (blk5 m c t ⟨k.val - 3584, by omega⟩ l))
      (blk6 m c t ⟨k.val / 128, by omega⟩ l))

theorem pb_apply (p : Fin 256) (r : Fin 160) :
    k0_pay13 (F := Ideal) (iblk m c 1 t) (iblk m c 2 t) (ix2 p r) = (inp m c).pb p r := by
  pointwise [k0_pay13, dot_S256x7168_S7168x160_S256x160_1_0_0_1_n_n]
  unfold Inp.pb
  exact Finset.sum_congr rfl fun k _ => congrArg₂ (· * ·) (blk1 m c t p k) (blk2 m c t k r)

theorem rows_apply (p : Fin 128) : rows (ix2 p 0) = BitVec.ofNat 32 p.val := by
  pointwise [rows]

variable (xs1 : Vec Ideal S256x160 .bf16) (h1 : ∀ p r, xs1 (ix2 p r) = (inp m c).pb p r)

/-- The residual block before the mask. -/
abbrev preBlk : Vec Ideal S256x512 .f32 := k0_pay90 xs1 (iblk m c 7 t) (iblk m c 1 t) (errBlk m c t)

include h1 in
theorem preBlk_apply (p : Fin 256) (l : Fin 512) : preBlk m c t xs1 (ix2 p l) = (inp m c).pre p (col t.val l.val) := by
  unfold preBlk
  generalize hE : errBlk m c t = E
  have hE' : ∀ k l, E (ix2 k l) = (inp m c).err k (col t.val l.val) := fun k l => hE ▸ errBlk_apply m c t k l
  pointwise [k0_pay90, dot_S256x7168_S7168x512_S256x512_1_0_0_1_n_n, dot_S256x160_S160x512_S256x512_1_0_0_1_n_n]
  unfold Inp.pre
  refine congrArg₂ (· - ·) (Finset.sum_congr rfl fun k _ => congrArg₂ (· * ·) (blk1 m c t p k) (hE' k l))
    (Finset.sum_congr rfl fun r _ => congrArg₂ (· * ·) (h1 p r) (blk7 m c t r l))

include h1 in
theorem resBlk_apply (p : Fin 256) (l : Fin 512) :
    k0_pay91 (preBlk m c t xs1) rows ((iblk m c 0 t : Vec Ideal S2 .i32) (ix1 0)) ((iblk m c 0 t : Vec Ideal S2 .i32) (ix1 1)) (ix2 p l)
      = (inp m c).res p (col t.val l.val) := by
  have hp := preBlk_apply m c t xs1 h1 p l
  generalize preBlk m c t xs1 = P at hp ⊢
  pointwise [k0_pay91]
  unfold Inp.res
  rw [hp]
  have hpl := p.isLt
  by_cases h : p.val < 128
  · rw [dif_pos h]
    rw [rows_apply, blk0]
    have e : (⟨p.val / 128, by omega⟩ : Fin 2) = 0 := Fin.ext (by show p.val / 128 = 0; omega)
    rw [e, show p.val % 128 = p.val by omega]
  · rw [dif_neg h]
    rw [rows_apply, blk0]
    have e : (⟨p.val / 128, by omega⟩ : Fin 2) = 1 := Fin.ext (by show p.val / 128 = 1; omega)
    rw [e, show p.val % 128 = p.val - 128 by omega]

/-- The tile's squares at lane `q` of row `p`: four lanes 128 apart. -/
def sq (I : Inp) (p : Fin 256) (t q : Nat) : EReal :=
  I.res p (col t q) * I.res p (col t q) + I.res p (col t (128 + q)) * I.res p (col t (128 + q))
    + I.res p (col t (256 + q)) * I.res p (col t (256 + q)) + I.res p (col t (384 + q)) * I.res p (col t (384 + q))

/-- The tile's part of `g`. -/
def gPart (I : Inp) (p : Fin 256) (t : Nat) (r : Fin 160) : EReal :=
  ∑ l : Fin 512, I.res p (col t l.val) * I.B r (col t l.val)

include h1 in
theorem sq_apply (acc : Vec Ideal S256x128 .f32) (p : Fin 256) (q : Fin 128) :
    k0_pay92 (preBlk m c t xs1) rows ((iblk m c 0 t : Vec Ideal S2 .i32) (ix1 0)) ((iblk m c 0 t : Vec Ideal S2 .i32) (ix1 1)) acc (ix2 p q)
      = acc (ix2 p q) + sq (inp m c) p t.val q.val := by
  have hr := resBlk_apply m c t xs1 h1 p
  generalize preBlk m c t xs1 = P at hr ⊢
  generalize (iblk m c 0 t : Vec Ideal S2 .i32) (ix1 0) = a at hr ⊢
  generalize (iblk m c 0 t : Vec Ideal S2 .i32) (ix1 1) = b at hr ⊢
  pointwise [k0_pay92]
  simp only [hr]
  rfl

include h1 in
theorem gPart_apply (acc : Vec Ideal S256x160 .f32) (p : Fin 256) (r : Fin 160) :
    k0_pay94 (iblk m c 7 t) (preBlk m c t xs1) rows ((iblk m c 0 t : Vec Ideal S2 .i32) (ix1 0)) ((iblk m c 0 t : Vec Ideal S2 .i32) (ix1 1)) acc (ix2 p r)
      = acc (ix2 p r) + gPart (inp m c) p t.val r := by
  have hr := resBlk_apply m c t xs1 h1 p
  generalize preBlk m c t xs1 = P at hr ⊢
  generalize (iblk m c 0 t : Vec Ideal S2 .i32) (ix1 0) = a at hr ⊢
  generalize (iblk m c 0 t : Vec Ideal S2 .i32) (ix1 1) = b at hr ⊢
  pointwise [k0_pay94, k0_pay93, dot_S256x512_S160x512_S256x160_1_1_0_0_n_n]
  refine congrArg (_ + ·) (Finset.sum_congr rfl fun l _ => congrArg₂ (· * ·) (hr l) (blk7 m c t r l))

include h1 in
theorem dbBlk_apply (r : Fin 160) (l : Fin 512) :
    k0_pay1 xs1 (k0_pay93 (preBlk m c t xs1) rows ((iblk m c 0 t : Vec Ideal S2 .i32) (ix1 0)) ((iblk m c 0 t : Vec Ideal S2 .i32) (ix1 1))) (ix2 r l)
      = (inp m c).db r (col t.val l.val) := by
  have hr := resBlk_apply m c t xs1 h1
  generalize preBlk m c t xs1 = P at hr ⊢
  generalize (iblk m c 0 t : Vec Ideal S2 .i32) (ix1 0) = a at hr ⊢
  generalize (iblk m c 0 t : Vec Ideal S2 .i32) (ix1 1) = b at hr ⊢
  pointwise [k0_pay1, k0_pay93, dot_S256x160_S256x512_S160x512_0_0_1_1_n_n]
  unfold Inp.db
  refine congrArg (_ * ·) (Finset.sum_congr rfl fun p _ => congrArg₂ (· * ·) (h1 p r) (hr p l))

theorem zero14 (p : Fin 256) (q : Fin 128) : k0_pay14 (F := Ideal) (ix2 p q) = 0 := by
  pointwise [k0_pay14]

theorem zero15 (p : Fin 256) (q : Fin 160) : k0_pay15 (F := Ideal) (ix2 p q) = 0 := by
  pointwise [k0_pay15]

end Cert.KernelIdeal.Hand
-- ==== Proof.Fold.lean ====
/-
  The grid's 36 points, folded: after point `n` the down-projection is held, the loss accumulator and `g` hold the sums
  over the first `n + 1` tiles, and the block of `d_b` is tile `n`'s; the last point adds the loss and `d_a`.
-/
module

public import proofs.«01_k».proof.Proof.Steps
public import proofs.«01_k».proof.Proof.Gen.KernelIdeal.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable (m : (ℓ : Loc nD τ sig) → Buf (Elt Ideal) ℓ) (c : Dev nD)

/-- What the point before `t` left. -/
abbrev prev (t : Fin cfg0.N) := outsAt0 m c (t.val - 1) (Nat.lt_of_le_of_lt (Nat.sub_le _ _) t.isLt)

section Points

variable (t : Fin cfg0.N)

theorem pb_at_A (h0 : t.val % 36 = 0) (h1 : ¬t.val % 36 = 35) : (outsAt0 m c t.val t.isLt).2.2.2.2.1
    = (k0_pay13 (iblk m c 1 t) (iblk m c 2 t)) := by
  refine (congrArg (fun s => s.2.2.2.2.1) (outsAt0_A m c t h0 h1)).trans ?_
  dsimp only
  exact sout_A_1 ..

theorem lacc_at_A (h0 : t.val % 36 = 0) (h1 : ¬t.val % 36 = 35) : (outsAt0 m c t.val t.isLt).2.2.2.2.2
    = k0_pay92 (preBlk m c t (k0_pay13 (iblk m c 1 t) (iblk m c 2 t))) rows ((iblk m c 0 t : Vec Ideal S2 .i32) (ix1 0)) ((iblk m c 0 t : Vec Ideal S2 .i32) (ix1 1)) (k0_pay14 (F := Ideal)) := by
  refine (congrArg (fun s => s.2.2.2.2.2) (outsAt0_A m c t h0 h1)).trans ?_
  dsimp only
  exact sout_A_2 ..

theorem g_at_A (h0 : t.val % 36 = 0) (h1 : ¬t.val % 36 = 35) : (outsAt0 m c t.val t.isLt).2.1
    = k0_pay94 (iblk m c 7 t) (preBlk m c t (k0_pay13 (iblk m c 1 t) (iblk m c 2 t))) rows ((iblk m c 0 t : Vec Ideal S2 .i32) (ix1 0)) ((iblk m c 0 t : Vec Ideal S2 .i32) (ix1 1)) (k0_pay15 (F := Ideal)) := by
  refine (congrArg (fun s => s.2.1) (outsAt0_A m c t h0 h1)).trans ?_
  dsimp only
  exact out_A_9 ..

theorem db_at_A (h0 : t.val % 36 = 0) (h1 : ¬t.val % 36 = 35) : (outsAt0 m c t.val t.isLt).2.2.2.1
    = k0_pay1 (k0_pay13 (iblk m c 1 t) (iblk m c 2 t)) (k0_pay93 (preBlk m c t (k0_pay13 (iblk m c 1 t) (iblk m c 2 t))) rows ((iblk m c 0 t : Vec Ideal S2 .i32) (ix1 0)) ((iblk m c 0 t : Vec Ideal S2 .i32) (ix1 1))) := by
  refine (congrArg (fun s => s.2.2.2.1) (outsAt0_A m c t h0 h1)).trans ?_
  dsimp only
  exact out_A_11 ..

theorem pb_at_B (h0 : ¬t.val % 36 = 0) (h1 : ¬t.val % 36 = 35) : (outsAt0 m c t.val t.isLt).2.2.2.2.1
    = (prev m c t).2.2.2.2.1 := by
  refine (congrArg (fun s => s.2.2.2.2.1) (outsAt0_B m c t h0 h1)).trans ?_
  dsimp only
  exact sout_B_1 ..

theorem lacc_at_B (h0 : ¬t.val % 36 = 0) (h1 : ¬t.val % 36 = 35) : (outsAt0 m c t.val t.isLt).2.2.2.2.2
    = k0_pay92 (preBlk m c t (prev m c t).2.2.2.2.1) rows ((iblk m c 0 t : Vec Ideal S2 .i32) (ix1 0)) ((iblk m c 0 t : Vec Ideal S2 .i32) (ix1 1)) (prev m c t).2.2.2.2.2 := by
  refine (congrArg (fun s => s.2.2.2.2.2) (outsAt0_B m c t h0 h1)).trans ?_
  dsimp only
  exact sout_B_2 ..

theorem g_at_B (h0 : ¬t.val % 36 = 0) (h1 : ¬t.val % 36 = 35) : (outsAt0 m c t.val t.isLt).2.1
    = k0_pay94 (iblk m c 7 t) (preBlk m c t (prev m c t).2.2.2.2.1) rows ((iblk m c 0 t : Vec Ideal S2 .i32) (ix1 0)) ((iblk m c 0 t : Vec Ideal S2 .i32) (ix1 1)) (prev m c t).2.1 := by
  refine (congrArg (fun s => s.2.1) (outsAt0_B m c t h0 h1)).trans ?_
  dsimp only
  exact out_B_9 ..

theorem db_at_B (h0 : ¬t.val % 36 = 0) (h1 : ¬t.val % 36 = 35) : (outsAt0 m c t.val t.isLt).2.2.2.1
    = k0_pay1 (prev m c t).2.2.2.2.1 (k0_pay93 (preBlk m c t (prev m c t).2.2.2.2.1) rows ((iblk m c 0 t : Vec Ideal S2 .i32) (ix1 0)) ((iblk m c 0 t : Vec Ideal S2 .i32) (ix1 1))) := by
  refine (congrArg (fun s => s.2.2.2.1) (outsAt0_B m c t h0 h1)).trans ?_
  dsimp only
  exact out_B_11 ..

theorem pb_at_C (h0 : ¬t.val % 36 = 0) (h1 : t.val % 36 = 35) : (outsAt0 m c t.val t.isLt).2.2.2.2.1
    = (prev m c t).2.2.2.2.1 := by
  refine (congrArg (fun s => s.2.2.2.2.1) (outsAt0_C m c t h0 h1)).trans ?_
  dsimp only
  exact sout_C_1 ..

theorem lacc_at_C (h0 : ¬t.val % 36 = 0) (h1 : t.val % 36 = 35) : (outsAt0 m c t.val t.isLt).2.2.2.2.2
    = k0_pay92 (preBlk m c t (prev m c t).2.2.2.2.1) rows ((iblk m c 0 t : Vec Ideal S2 .i32) (ix1 0)) ((iblk m c 0 t : Vec Ideal S2 .i32) (ix1 1)) (prev m c t).2.2.2.2.2 := by
  refine (congrArg (fun s => s.2.2.2.2.2) (outsAt0_C m c t h0 h1)).trans ?_
  dsimp only
  exact sout_C_2 ..

theorem g_at_C (h0 : ¬t.val % 36 = 0) (h1 : t.val % 36 = 35) : (outsAt0 m c t.val t.isLt).2.1
    = k0_pay94 (iblk m c 7 t) (preBlk m c t (prev m c t).2.2.2.2.1) rows ((iblk m c 0 t : Vec Ideal S2 .i32) (ix1 0)) ((iblk m c 0 t : Vec Ideal S2 .i32) (ix1 1)) (prev m c t).2.1 := by
  refine (congrArg (fun s => s.2.1) (outsAt0_C m c t h0 h1)).trans ?_
  dsimp only
  exact out_C_9 ..

theorem db_at_C (h0 : ¬t.val % 36 = 0) (h1 : t.val % 36 = 35) : (outsAt0 m c t.val t.isLt).2.2.2.1
    = k0_pay1 (prev m c t).2.2.2.2.1 (k0_pay93 (preBlk m c t (prev m c t).2.2.2.2.1) rows ((iblk m c 0 t : Vec Ideal S2 .i32) (ix1 0)) ((iblk m c 0 t : Vec Ideal S2 .i32) (ix1 1))) := by
  refine (congrArg (fun s => s.2.2.2.1) (outsAt0_C m c t h0 h1)).trans ?_
  dsimp only
  exact out_C_11 ..

theorem loss_at_C (h0 : ¬t.val % 36 = 0) (h1 : t.val % 36 = 35) : (outsAt0 m c t.val t.isLt).1
    = lossOut (k0_pay92 (preBlk m c t (prev m c t).2.2.2.2.1) rows ((iblk m c 0 t : Vec Ideal S2 .i32) (ix1 0)) ((iblk m c 0 t : Vec Ideal S2 .i32) (ix1 1)) (prev m c t).2.2.2.2.2) := by
  refine (congrArg (fun s => s.1) (outsAt0_C m c t h0 h1)).trans ?_
  dsimp only
  exact out_C_8 ..

theorem da_at_C (h0 : ¬t.val % 36 = 0) (h1 : t.val % 36 = 35) : (outsAt0 m c t.val t.isLt).2.2.1
    = daOut (iblk m c 1 t) (k0_pay94 (iblk m c 7 t) (preBlk m c t (prev m c t).2.2.2.2.1) rows ((iblk m c 0 t : Vec Ideal S2 .i32) (ix1 0)) ((iblk m c 0 t : Vec Ideal S2 .i32) (ix1 1)) (prev m c t).2.1) := by
  refine (congrArg (fun s => s.2.2.1) (outsAt0_C m c t h0 h1)).trans ?_
  dsimp only
  exact out_C_10 ..

theorem loss_of_lacc (h0 : ¬t.val % 36 = 0) (h1 : t.val % 36 = 35) :
    (outsAt0 m c t.val t.isLt).1 = lossOut (outsAt0 m c t.val t.isLt).2.2.2.2.2 :=
  (loss_at_C m c t h0 h1).trans (congrArg lossOut (lacc_at_C m c t h0 h1).symm)

theorem da_of_g (h0 : ¬t.val % 36 = 0) (h1 : t.val % 36 = 35) :
    (outsAt0 m c t.val t.isLt).2.2.1 = daOut (iblk m c 1 t) (outsAt0 m c t.val t.isLt).2.1 :=
  (da_at_C m c t h0 h1).trans (congrArg (daOut (iblk m c 1 t)) (g_at_C m c t h0 h1).symm)

end Points

/-- What holds after point `n`. -/
structure Inv (n : ℕ) (h : n < cfg0.N) : Prop where
  pb : ∀ p r, (outsAt0 m c n h).2.2.2.2.1 (ix2 p r) = (inp m c).pb p r
  lacc : ∀ (p : Fin 256) (q : Fin 128), (outsAt0 m c n h).2.2.2.2.2 (ix2 p q) = ∑ t ∈ Finset.range (n + 1), sq (inp m c) p t q.val
  g : ∀ (p : Fin 256) (r : Fin 160), (outsAt0 m c n h).2.1 (ix2 p r) = ∑ t ∈ Finset.range (n + 1), gPart (inp m c) p t r
  db : ∀ (r : Fin 160) (l : Fin 512), (outsAt0 m c n h).2.2.2.1 (ix2 r l) = (inp m c).db r (col n l.val)

theorem inv_zero (h : 0 < cfg0.N) : Inv m c 0 h := by
  have h0 : (⟨0, h⟩ : Fin cfg0.N).val % 36 = 0 := rfl
  have h1 : ¬(⟨0, h⟩ : Fin cfg0.N).val % 36 = 35 := by show ¬0 % 36 = 35; decide
  refine ⟨fun p r => ?_, fun p q => ?_, fun p r => ?_, fun r l => ?_⟩
  · exact (congrFun (pb_at_A m c ⟨0, h⟩ h0 h1) _).trans (pb_apply m c _ p r)
  · refine (congrFun (lacc_at_A m c ⟨0, h⟩ h0 h1) _).trans ((sq_apply m c _ _ (pb_apply m c _) _ p q).trans ?_)
    rw [zero14, zero_add, Finset.sum_range_one]
  · refine (congrFun (g_at_A m c ⟨0, h⟩ h0 h1) _).trans ((gPart_apply m c _ _ (pb_apply m c _) _ p r).trans ?_)
    rw [zero15, zero_add, Finset.sum_range_one]
  · exact (congrFun (db_at_A m c ⟨0, h⟩ h0 h1) _).trans (dbBlk_apply m c _ _ (pb_apply m c _) r l)

theorem inv_succ (n : ℕ) (h : n + 1 < cfg0.N) (I : Inv m c n (Nat.lt_of_succ_lt h)) : Inv m c (n + 1) h := by
  have hn : n + 1 < 36 := lt_of_lt_of_eq h N_0
  have h0 : ¬(⟨n + 1, h⟩ : Fin cfg0.N).val % 36 = 0 := by show ¬(n + 1) % 36 = 0; omega
  have I1 : ∀ p r, (prev m c ⟨n + 1, h⟩).2.2.2.2.1 (ix2 p r) = (inp m c).pb p r := I.pb
  have I2 : ∀ (p : Fin 256) (q : Fin 128), (prev m c ⟨n + 1, h⟩).2.2.2.2.2 (ix2 p q) = ∑ t ∈ Finset.range (n + 1), sq (inp m c) p t q.val := I.lacc
  have I3 : ∀ (p : Fin 256) (r : Fin 160), (prev m c ⟨n + 1, h⟩).2.1 (ix2 p r) = ∑ t ∈ Finset.range (n + 1), gPart (inp m c) p t r := I.g
  by_cases h1 : (⟨n + 1, h⟩ : Fin cfg0.N).val % 36 = 35
  · refine ⟨fun p r => ?_, fun p q => ?_, fun p r => ?_, fun r l => ?_⟩
    · exact (congrFun (pb_at_C m c ⟨n + 1, h⟩ h0 h1) _).trans (I1 p r)
    · refine (congrFun (lacc_at_C m c ⟨n + 1, h⟩ h0 h1) _).trans ((sq_apply m c _ _ I1 _ p q).trans ?_)
      rw [I2, Finset.sum_range_succ _ (n + 1)]
    · refine (congrFun (g_at_C m c ⟨n + 1, h⟩ h0 h1) _).trans ((gPart_apply m c _ _ I1 _ p r).trans ?_)
      rw [I3, Finset.sum_range_succ _ (n + 1)]
    · exact (congrFun (db_at_C m c ⟨n + 1, h⟩ h0 h1) _).trans (dbBlk_apply m c _ _ I1 r l)
  · refine ⟨fun p r => ?_, fun p q => ?_, fun p r => ?_, fun r l => ?_⟩
    · exact (congrFun (pb_at_B m c ⟨n + 1, h⟩ h0 h1) _).trans (I1 p r)
    · refine (congrFun (lacc_at_B m c ⟨n + 1, h⟩ h0 h1) _).trans ((sq_apply m c _ _ I1 _ p q).trans ?_)
      rw [I2, Finset.sum_range_succ _ (n + 1)]
    · refine (congrFun (g_at_B m c ⟨n + 1, h⟩ h0 h1) _).trans ((gPart_apply m c _ _ I1 _ p r).trans ?_)
      rw [I3, Finset.sum_range_succ _ (n + 1)]
    · exact (congrFun (db_at_B m c ⟨n + 1, h⟩ h0 h1) _).trans (dbBlk_apply m c _ _ I1 r l)

theorem inv : ∀ (n : ℕ) (h : n < cfg0.N), Inv m c n h
  | 0, h => inv_zero m c h
  | n + 1, h => inv_succ m c n h (inv n (Nat.lt_of_succ_lt h))

theorem lt35 : 35 < cfg0.N := lt_of_lt_of_eq (by decide) N_0.symm

/-- The whole of `g`: the 36 tiles are the columns. -/
theorem g_last (n : ℕ) (hn : n < cfg0.N) (h : n = 35) (p : Fin 256) (r : Fin 160) :
    (outsAt0 m c n hn).2.1 (ix2 p r) = (inp m c).g p r := by
  rw [(inv m c n hn).g p r, h]
  exact sum_tiles fun n => (inp m c).res p n * (inp m c).B r n

/-- The loss. -/
theorem loss_last (n : ℕ) (hn : n < cfg0.N) (h : n = 35) (i : Fin 2) (j : Fin 128) :
    (outsAt0 m c n hn).1 (ix2 i j) = (inp m c).loss ⟨128 * i.val + j.val, by omega⟩ := by
  have e : (outsAt0 m c n hn).1 = lossOut (outsAt0 m c n hn).2.2.2.2.2 :=
    loss_of_lacc m c ⟨n, hn⟩ (by show ¬n % 36 = 0; omega) (by show n % 36 = 35; omega)
  have hl := (inv m c n hn).lacc
  generalize outsAt0 m c n hn = s at e hl ⊢
  rw [e]
  unfold lossOut
  refine (Finset.sum_congr rfl fun q _ => hl ⟨128 * i.val + j.val, by omega⟩ q).trans ?_
  rw [Finset.sum_comm, h]
  unfold Inp.loss
  rw [← sum_tiles]
  refine Finset.sum_congr rfl fun t _ => ?_
  exact sum_lanes fun l => (inp m c).res ⟨128 * i.val + j.val, by omega⟩ (col t l) * (inp m c).res ⟨128 * i.val + j.val, by omega⟩ (col t l)

/-- The gradient of the down-projection factor. -/
theorem da_last (n : ℕ) (hn : n < cfg0.N) (h : n = 35) (d : Fin 7168) (r : Fin 160) :
    (outsAt0 m c n hn).2.2.1 (ix2 d r) = (inp m c).da d r := by
  have e : (outsAt0 m c n hn).2.2.1 = daOut (iblk m c 1 ⟨n, hn⟩) (outsAt0 m c n hn).2.1 :=
    da_of_g m c ⟨n, hn⟩ (by show ¬n % 36 = 0; omega) (by show n % 36 = 35; omega)
  have hg := g_last m c n hn h
  generalize outsAt0 m c n hn = s at e hg ⊢
  rw [e]
  unfold daOut Inp.da
  exact congrArg (_ * ·) (Finset.sum_congr rfl fun p _ => congrArg₂ (· * ·) (blk1 m c ⟨n, hn⟩ p d) (hg p r))

/-- The four result arrays. -/
theorem G8_eq (i : Fin 2) (j : Fin 128) : Value.G8 m c (ix2 i j) = (inp m c).loss ⟨128 * i.val + j.val, by omega⟩ := by
  rw [Value.G8_last, ← Value.outsAt0_sweep m c 35 lt35]
  exact loss_last m c 35 lt35 rfl i j

theorem G9_eq (p : Fin 256) (r : Fin 160) : Value.G9 m c (ix2 p r) = (inp m c).g p r := by
  rw [Value.G9_last, ← Value.outsAt0_sweep m c 35 lt35]
  exact g_last m c 35 lt35 rfl p r

theorem G10_eq (d : Fin 7168) (r : Fin 160) : Value.G10 m c (ix2 d r) = (inp m c).da d r := by
  rw [Value.G10_last, ← Value.outsAt0_sweep m c 35 lt35]
  exact da_last m c 35 lt35 rfl d r

theorem G11_eq (r : Fin 160) (n : Fin 18432) : Value.G11 m c (ix2 r n) = (inp m c).db r n := by
  have hr := r.isLt
  have hn := n.isLt
  have hp : Value.pt11Of (ix2 r n) = n.val / 512 := by
    show 36 * (r.val / 160 - 0) + 1 * (n.val / 512 - 0) = _
    omega
  have hlt : Value.pt11Of (ix2 r n) < cfg0.N := lt_of_lt_of_eq (by rw [hp]; omega) N_0.symm
  unfold Value.G11
  rw [dif_pos hlt, ← Value.outsAt0_sweep m c _ hlt]
  have hl : Value.loc11Of (ix2 r n) = (ix2 r (⟨n.val % 512, by omega⟩ : Fin 512) : S160x512.Idx) := by
    refine funext fun a => Fin.ext ?_
    match a with
    | ⟨0, _⟩ => show r.val % 160 = r.val; omega
    | ⟨1, _⟩ => rfl
  rw [hl, (inv m c _ hlt).db, hp]
  refine congrArg _ (Fin.ext ?_)
  show (n.val / 512 * 512 + n.val % 512) % 18432 = n.val
  omega

end Cert.KernelIdeal.Hand
-- ==== Proof.RefRead.lean ====
/-
  The reference's four results, read entry by entry: each is the specification's value at its coordinates.
-/
module

public import proofs.«01_k».proof.Proof.Spec
public import proofs.«01_k».proof.Proof.Gen.ReferenceIdeal.Read
public import Idealize.ShloMosaic.Lib.TwoAxisContraction

@[expose] public section

set_option maxRecDepth 16384

noncomputable section

namespace Cert.ReferenceIdeal.Hand

open Cert.ReferenceIdeal Cert.ReferenceIdeal.Gen Cert.ReferenceIdeal.Read
open Cert.KernelIdeal.Hand (Inp loCode hiCode)
open Idealize.ShloMosaic Idealize.ShloMosaic.TcCoe
open Idealize.ShloMosaic.ValueIdx (sum_contr2 contrEquiv2_symm_val0 contrEquiv2_symm_val1)
open Idealize.SL.Sem
open scoped BigOperators

/-! ## Indices, nibbles and sums -/

theorem eq2 {n0 n1 : Nat} (j : (⟨2, ![n0, n1]⟩ : Shape).Idx) (a : Fin n0) (b : Fin n1) (h0 : (j 0).val = a.val)
    (h1 : (j 1).val = b.val) : j = ix2 a b := by
  refine funext fun d => Fin.ext ?_
  match d with
  | ⟨0, _⟩ => exact h0
  | ⟨1, _⟩ => exact h1

theorem eq3 {n0 n1 n2 : Nat} (j : (⟨3, ![n0, n1, n2]⟩ : Shape).Idx) (a : Fin n0) (b : Fin n1) (c : Fin n2)
    (h0 : (j 0).val = a.val) (h1 : (j 1).val = b.val) (h2 : (j 2).val = c.val) : j = ix3 a b c := by
  refine funext fun d => Fin.ext ?_
  match d with
  | ⟨0, _⟩ => exact h0
  | ⟨1, _⟩ => exact h1
  | ⟨2, _⟩ => exact h2

/-- The reference's low code, a 32-bit word, is the integer of the kernel's. -/
theorem lo_toInt : ∀ v : BitVec 8,
    (IntOp.subi (IntOp.xori (IntOp.andi (v.setWidth 32) 15#32) 8#32) 8#32).toInt = (loCode v).toInt := by
  decide +kernel

/-- The reference's high code, a 32-bit word, is the integer of the kernel's. -/
theorem hi_toInt : ∀ v : BitVec 8,
    (IntOp.subi (IntOp.xori (IntOp.andi (IntOp.shrsi .host (v.setWidth 32) 4#32) 15#32) 8#32) 8#32).toInt
      = (hiCode v).toInt := by
  decide +kernel

/-- A sum over the rows, half by half. -/
theorem sum_halves (f : Fin 7168 → EReal) :
    ∑ k, f k = ∑ k : Fin 3584, f ⟨k.val, by omega⟩ + ∑ k : Fin 3584, f ⟨3584 + k.val, by omega⟩ :=
  Fin.sum_univ_add (a := 3584) (b := 3584) f

/-- A sum over the rows of both sequences, sequence by sequence. -/
theorem sum_rows (f : Fin 256 → EReal) :
    ∑ i : Fin 2, ∑ j : Fin 128, f ⟨128 * i.val + j.val, by omega⟩ = ∑ p, f p := by
  rw [← Fintype.sum_prod_type' (f := fun (i : Fin 2) (j : Fin 128) => f ⟨128 * i.val + j.val, by omega⟩),
    ← Equiv.sum_comp (finProdFinEquiv (m := 2) (n := 128)) f]
  refine Finset.sum_congr rfl fun x _ => congrArg f (Fin.ext ?_)
  show 128 * x.1.val + x.2.val = x.2.val + 128 * x.1.val
  omega

/-! ## The reference's values -/

variable (x0 : (⟨S2x128x7168, .bf16⟩ : BufTy).Contents (Elt Ideal)) (x1 : (⟨S2, .i32⟩ : BufTy).Contents (Elt Ideal))
  (x2 : (⟨S7168x18432, .bf16⟩ : BufTy).Contents (Elt Ideal)) (x3 : (⟨S3584x18432, .i8⟩ : BufTy).Contents (Elt Ideal))
  (x4 : (⟨S56x18432, .bf16⟩ : BufTy).Contents (Elt Ideal)) (x5 : (⟨S7168x160, .bf16⟩ : BufTy).Contents (Elt Ideal))
  (x6 : (⟨S160x18432, .bf16⟩ : BufTy).Contents (Elt Ideal))

/-- The seven arguments, by coordinates. -/
def rin : Inp where
  X p k := x0 (ix3 (⟨p.val / 128, by omega⟩ : Fin 2) (⟨p.val % 128, by omega⟩ : Fin 128) k)
  len i := x1 (ix1 i)
  W k n := x2 (ix2 k n)
  C k n := x3 (ix2 k n)
  S k n := x4 (ix2 k n)
  A k r := x5 (ix2 k r)
  B r n := x6 (ix2 r n)

/-- Row `j` of sequence `i`. -/
def row (i : Fin 2) (j : Fin 128) : Fin 256 := ⟨128 * i.val + j.val, by omega⟩

theorem X_row (i : Fin 2) (j : Fin 128) (k : Fin 7168) : (rin x0 x1 x2 x3 x4 x5 x6).X (row i j) k = x0 (ix3 i j k) := by
  have hi := i.isLt
  have hj := j.isLt
  refine congrArg x0 (eq3 _ _ _ _ ?_ ?_ rfl)
  · show (128 * i.val + j.val) / 128 = i.val
    omega
  · show (128 * i.val + j.val) % 128 = j.val
    omega

theorem lo_code (k : Fin 3584) (n : Fin 18432) :
    val_main_v17 (F := Ideal) x3 (ix2 k n) = FloatOps.sitofp (F := Ideal) .bf16 (loCode (x3 (ix2 k n))) := by
  rw [val_main_v17_apply, val_main_v6_apply, val_main_v4_apply, val_main_v2_apply, val_main_v0_apply, val_main_v1_apply,
    val_main_v3_apply, val_main_v5_apply, val_main_c_apply, val_main_c_0_apply, val_main_c_1_apply]
  exact congrArg (fun z : ℤ => ((z : ℝ) : EReal)) (lo_toInt _)

theorem hi_code (k : Fin 3584) (n : Fin 18432) :
    val_main_v26 (F := Ideal) x3 (ix2 k n) = FloatOps.sitofp (F := Ideal) .bf16 (hiCode (x3 (ix2 k n))) := by
  rw [val_main_v26_apply, val_main_v14_apply, val_main_v12_apply, val_main_v10_apply, val_main_v8_apply, val_main_v0_apply,
    val_main_v7_apply, val_main_v9_apply, val_main_v11_apply, val_main_v13_apply, val_main_c_2_apply, val_main_c_3_apply,
    val_main_c_4_apply, val_main_c_5_apply]
  exact congrArg (fun z : ℤ => ((z : ℝ) : EReal)) (hi_toInt _)

/-- The scales of the low half, one for each group of 128 rows. -/
theorem lo_scale (k : Fin 3584) (n : Fin 18432) :
    val_main_v20 (F := Ideal) x4 (idx_main_v22 (ix2 k n)) = x4 (ix2 ⟨k.val / 128, by omega⟩ n) := by
  rw [val_main_v20_apply, val_main_v19_apply, val_main_v15_apply]
  have hk := k.isLt
  have hn := n.isLt
  refine congrArg x4 (eq2 _ _ _ ?_ ?_)
  · show (k.val * 18432 + n.val) / 2359296 = k.val / 128
    omega
  · show (k.val * 18432 + n.val) % 18432 = n.val
    omega

/-- The scales of the high half. -/
theorem hi_scale (k : Fin 3584) (n : Fin 18432) :
    val_main_v29 (F := Ideal) x4 (idx_main_v31 (ix2 k n)) = x4 (ix2 ⟨(3584 + k.val) / 128, by omega⟩ n) := by
  rw [val_main_v29_apply, val_main_v28_apply, val_main_v24_apply]
  have hk := k.isLt
  have hn := n.isLt
  refine congrArg x4 (eq2 _ _ _ ?_ ?_)
  · show 28 + (k.val * 18432 + n.val) / 2359296 = (3584 + k.val) / 128
    omega
  · show (k.val * 18432 + n.val) % 18432 = n.val
    omega

theorem lo_at (k : Fin 3584) (n : Fin 18432) :
    val_main_v18 (F := Ideal) x3 (idx_main_v22 (ix2 k n)) = val_main_v17 (F := Ideal) x3 (ix2 k n) := by
  rw [val_main_v18_apply]
  have hk := k.isLt
  have hn := n.isLt
  refine congrArg _ (eq2 _ _ _ ?_ ?_)
  · show (((k.val * 18432 + n.val) / 2359296 * 128 + (k.val * 18432 + n.val) / 18432 % 128) * 18432
      + (k.val * 18432 + n.val) % 18432) / 18432 = k.val
    omega
  · show (((k.val * 18432 + n.val) / 2359296 * 128 + (k.val * 18432 + n.val) / 18432 % 128) * 18432
      + (k.val * 18432 + n.val) % 18432) % 18432 = n.val
    omega

theorem hi_at (k : Fin 3584) (n : Fin 18432) :
    val_main_v27 (F := Ideal) x3 (idx_main_v31 (ix2 k n)) = val_main_v26 (F := Ideal) x3 (ix2 k n) := by
  rw [val_main_v27_apply]
  have hk := k.isLt
  have hn := n.isLt
  refine congrArg _ (eq2 _ _ _ ?_ ?_)
  · show (((k.val * 18432 + n.val) / 2359296 * 128 + (k.val * 18432 + n.val) / 18432 % 128) * 18432
      + (k.val * 18432 + n.val) % 18432) / 18432 = k.val
    omega
  · show (((k.val * 18432 + n.val) / 2359296 * 128 + (k.val * 18432 + n.val) / 18432 % 128) * 18432
      + (k.val * 18432 + n.val) % 18432) % 18432 = n.val
    omega

/-- The low half of the error matrix. -/
theorem err_lo (k : Fin 3584) (n : Fin 18432) :
    val_main_v23 (F := Ideal) x2 x3 x4 (ix2 k n) = (rin x0 x1 x2 x3 x4 x5 x6).err ⟨k.val, by omega⟩ n := by
  rw [val_main_v23_apply, val_main_v22_apply, val_main_v21_apply, val_main_v16_apply, lo_at, lo_code, lo_scale]
  unfold Inp.err
  rw [dif_pos k.isLt]
  exact congrArg (fun w => w - _) (congrArg x2 (eq2 _ _ _ rfl rfl))

/-- The high half of the error matrix. -/
theorem err_hi (k : Fin 3584) (n : Fin 18432) :
    val_main_v32 (F := Ideal) x2 x3 x4 (ix2 k n) = (rin x0 x1 x2 x3 x4 x5 x6).err ⟨3584 + k.val, by omega⟩ n := by
  rw [val_main_v32_apply, val_main_v31_apply, val_main_v30_apply, val_main_v25_apply, hi_at, hi_code, hi_scale]
  unfold Inp.err
  rw [dif_neg (show ¬ 3584 + k.val < 3584 by omega)]
  refine congrArg₂ (fun w z : EReal => w - z) (congrArg x2 (eq2 _ _ _ rfl rfl)) ?_
  refine congrArg (fun v => FloatOps.sitofp (F := Ideal) .bf16 (hiCode v) * _) ?_
  refine congrArg x3 (eq2 _ _ _ ?_ rfl)
  show k.val = 3584 + k.val - 3584
  omega

/-- The activations through the down-projection factor. -/
theorem pb_eq (i : Fin 2) (j : Fin 128) (r : Fin 160) :
    val_main_v39 (F := Ideal) x0 x5 (ix3 i j r) = (rin x0 x1 x2 x3 x4 x5 x6).pb (row i j) r := by
  rw [val_main_v39_apply]
  refine (val_main_v38_apply x0 x5 (ix3 i j r)).trans ?_
  unfold Inp.pb
  refine Finset.sum_congr rfl fun k _ => congrArg₂ (fun w z : EReal => w * z) ?_ (congrArg x5 (eq2 _ _ _ rfl rfl))
  rw [X_row]
  exact congrArg x0 (eq3 _ _ _ _ rfl rfl rfl)

/-- The residual before the mask. -/
theorem pre_eq (i : Fin 2) (j : Fin 128) (n : Fin 18432) :
    val_main_v48 (F := Ideal) x0 x2 x3 x4 x5 x6 (ix3 i j n) = (rin x0 x1 x2 x3 x4 x5 x6).pre (row i j) n := by
  rw [val_main_v48_apply, val_main_v37_apply, val_main_v34_apply, val_main_v36_apply, val_main_v40_apply]
  unfold Inp.pre
  rw [sum_halves]
  refine congrArg₂ (fun w z : EReal => w - z) (congrArg₂ (fun w z : EReal => w + z) ?_ ?_) ?_
  · refine Finset.sum_congr rfl fun k _ => congrArg₂ (fun w z : EReal => w * z) ?_ ?_
    · rw [val_main_v33_apply, X_row]
      exact congrArg x0 (eq3 _ _ _ _ rfl rfl rfl)
    · exact (congrArg _ (eq2 _ k n rfl rfl)).trans (err_lo x0 x1 x2 x3 x4 x5 x6 k n)
  · refine Finset.sum_congr rfl fun k _ => congrArg₂ (fun w z : EReal => w * z) ?_ ?_
    · rw [val_main_v35_apply, X_row]
      exact congrArg x0 (eq3 _ _ _ _ rfl rfl rfl)
    · exact (congrArg _ (eq2 _ k n rfl rfl)).trans (err_hi x0 x1 x2 x3 x4 x5 x6 k n)
  · refine Finset.sum_congr rfl fun r _ => congrArg₂ (fun w z : EReal => w * z) ?_ ?_
    · exact (congrArg _ (eq3 _ i j r rfl rfl rfl)).trans (pb_eq x0 x1 x2 x3 x4 x5 x6 i j r)
    · exact congrArg x6 (eq2 _ _ _ rfl rfl)

/-- The residual. -/
theorem res_eq (i : Fin 2) (j : Fin 128) (n : Fin 18432) :
    val_main_v49 (F := Ideal) x0 x1 x2 x3 x4 x5 x6 (ix3 i j n) = (rin x0 x1 x2 x3 x4 x5 x6).res (row i j) n := by
  have hi := i.isLt
  have hj := j.isLt
  have hc : val_main_call0_v1 (F := Ideal) x1 (ix3 i j n)
      = IntOp.cmpi .slt (BitVec.ofNat 32 ((row i j).val % 128)) ((rin x0 x1 x2 x3 x4 x5 x6).len ⟨(row i j).val / 128, by omega⟩) := by
    rw [val_main_call0_v1_apply, val_main_v47_apply, val_main_v46_apply, val_main_v44_apply, val_main_v42_apply,
      val_main_v41_apply, val_main_v45_apply, val_main_v43_apply]
    refine congrArg₂ (fun a b => IntOp.cmpi .slt (BitVec.ofNat 32 a) b) ?_ (congrArg x1 ?_)
    · show j.val = (128 * i.val + j.val) % 128
      omega
    · refine funext fun d => Fin.ext ?_
      match d with
      | ⟨0, _⟩ =>
        show i.val = (128 * i.val + j.val) / 128
        omega
  have hz : val_main_call0_v2 (F := Ideal) (ix3 i j n) = (0 : EReal) := by
    rw [val_main_call0_v2_apply, val_main_call0_v0_apply, val_main_cst_apply]
    exact Ideal.ofBits_zero_f32
  rw [val_main_v49_apply, hc, hz, pre_eq x0 x1 x2 x3 x4 x5 x6]
  rfl

/-- The loss. -/
theorem loss_eq (i : Fin 2) (j : Fin 128) :
    val_main_v51 (F := Ideal) x0 x1 x2 x3 x4 x5 x6 (ix2 i j) = (rin x0 x1 x2 x3 x4 x5 x6).loss (row i j) := by
  have hz : val_main_cst_6 (F := Ideal) (Shape.Idx.first h_S_) = (0 : EReal) := by
    rw [val_main_cst_6_apply]
    exact Ideal.ofBits_zero_f32
  rw [val_main_v51_apply, hz, zero_add]
  unfold Inp.loss
  refine Finset.sum_congr rfl fun n _ => ?_
  rw [val_main_v50_apply]
  have h := (congrArg (val_main_v49 (F := Ideal) x0 x1 x2 x3 x4 x5 x6) (eq3 (idx_main_v51 (ix2 i j) n) i j n rfl rfl rfl)).trans
    (res_eq x0 x1 x2 x3 x4 x5 x6 i j n)
  exact congrArg₂ (fun w z : EReal => w * z) h h

/-- The residual through the up-projection factor, by sequence. -/
theorem g_row (i : Fin 2) (j : Fin 128) (r : Fin 160) :
    val_main_v53 (F := Ideal) x0 x1 x2 x3 x4 x5 x6 (ix3 i j r) = (rin x0 x1 x2 x3 x4 x5 x6).g (row i j) r := by
  rw [val_main_v53_apply]
  unfold Inp.g
  refine Finset.sum_congr rfl fun n _ => congrArg₂ (fun w z : EReal => w * z) ?_ (congrArg x6 (eq2 _ _ _ rfl rfl))
  rw [val_main_v52_apply]
  exact (congrArg (val_main_v49 (F := Ideal) x0 x1 x2 x3 x4 x5 x6) (eq3 (lidx_main_v53 (ix3 i j r) n) i j n rfl rfl rfl)).trans
    (res_eq x0 x1 x2 x3 x4 x5 x6 i j n)

/-- The residual through the up-projection factor. -/
theorem g_eq (p : Fin 256) (r : Fin 160) :
    val_main_v61 (F := Ideal) x0 x1 x2 x3 x4 x5 x6 (ix2 p r) = (rin x0 x1 x2 x3 x4 x5 x6).g p r := by
  have hp := p.isLt
  have hr := r.isLt
  rw [val_main_v61_apply]
  refine (congrArg _ (eq3 _ (⟨p.val / 128, by omega⟩ : Fin 2) (⟨p.val % 128, by omega⟩ : Fin 128) r ?_ ?_ ?_)).trans
    ((g_row x0 x1 x2 x3 x4 x5 x6 _ _ r).trans (congrArg (fun q => (rin x0 x1 x2 x3 x4 x5 x6).g q r) (Fin.ext ?_)))
  · show (p.val * 160 + r.val) / 20480 = p.val / 128
    omega
  · show (p.val * 160 + r.val) / 160 % 128 = p.val % 128
    omega
  · show (p.val * 160 + r.val) % 160 = r.val
    omega
  · show 128 * (p.val / 128) + p.val % 128 = p.val
    omega

/-- The contraction of both row axes of the activations and of `g`. -/
theorem dot_da (y0 : (⟨S2x128x7168, .bf16⟩ : BufTy).Contents (Elt Ideal)) (y1 : (⟨S2x128x160, .bf16⟩ : BufTy).Contents (Elt Ideal))
    (d : Fin 7168) (r : Fin 160) :
    Host.dotGeneral (F := Ideal) (φ₁ := .bf16) (φ₂ := .bf16) dot_S2x128x7168_S2x128x160_S7168x160_01_01_2_2_n_n none y0 y1 (ix2 d r : S7168x160.Idx)
      = ∑ i : Fin 2, ∑ j : Fin 128, y0 (ix3 i j d) * y1 (ix3 i j r) := by
  simp only [Host.dotGeneral]
  rw [Ideal.dotGeneral_apply, sum_contr2 dot_S2x128x7168_S2x128x160_S7168x160_01_01_2_2_n_n 2 128 rfl rfl rfl]
  refine Finset.sum_congr rfl fun i _ => Finset.sum_congr rfl fun j _ => ?_
  have h0 := contrEquiv2_symm_val0 dot_S2x128x7168_S2x128x160_S7168x160_01_01_2_2_n_n 2 128 rfl rfl rfl (i, j)
  have h1 := contrEquiv2_symm_val1 dot_S2x128x7168_S2x128x160_S7168x160_01_01_2_2_n_n 2 128 rfl rfl rfl (i, j)
  exact congrArg₂ (fun w z : EReal => w * z) (congrArg y0 (eq3 _ i j d h0 h1 rfl)) (congrArg y1 (eq3 _ i j r h0 h1 rfl))

/-- The contraction of both row axes of the projected activations and of the residual. -/
theorem dot_db (y0 : (⟨S2x128x160, .bf16⟩ : BufTy).Contents (Elt Ideal)) (y1 : (⟨S2x128x18432, .bf16⟩ : BufTy).Contents (Elt Ideal))
    (r : Fin 160) (n : Fin 18432) :
    Host.dotGeneral (F := Ideal) (φ₁ := .bf16) (φ₂ := .bf16) dot_S2x128x160_S2x128x18432_S160x18432_01_01_2_2_n_n none y0 y1 (ix2 r n : S160x18432.Idx)
      = ∑ i : Fin 2, ∑ j : Fin 128, y0 (ix3 i j r) * y1 (ix3 i j n) := by
  simp only [Host.dotGeneral]
  rw [Ideal.dotGeneral_apply, sum_contr2 dot_S2x128x160_S2x128x18432_S160x18432_01_01_2_2_n_n 2 128 rfl rfl rfl]
  refine Finset.sum_congr rfl fun i _ => Finset.sum_congr rfl fun j _ => ?_
  have h0 := contrEquiv2_symm_val0 dot_S2x128x160_S2x128x18432_S160x18432_01_01_2_2_n_n 2 128 rfl rfl rfl (i, j)
  have h1 := contrEquiv2_symm_val1 dot_S2x128x160_S2x128x18432_S160x18432_01_01_2_2_n_n 2 128 rfl rfl rfl (i, j)
  exact congrArg₂ (fun w z : EReal => w * z) (congrArg y0 (eq3 _ i j r h0 h1 rfl)) (congrArg y1 (eq3 _ i j n h0 h1 rfl))

/-- The gradient of the down-projection factor. -/
theorem da_eq (d : Fin 7168) (r : Fin 160) :
    val_main_v57 (F := Ideal) x0 x1 x2 x3 x4 x5 x6 (ix2 d r) = (rin x0 x1 x2 x3 x4 x5 x6).da d r := by
  rw [val_main_v57_apply, val_main_v56_apply, val_main_cst_7_apply]
  unfold Inp.da
  refine congrArg (fun z : EReal => Ideal.ofBits .f32 3221225472#32 * z) ?_
  unfold val_main_v55
  rw [dot_da, ← sum_rows]
  refine Finset.sum_congr rfl fun i _ => Finset.sum_congr rfl fun j _ => congrArg₂ (fun w z : EReal => w * z) ?_ ?_
  · exact (X_row x0 x1 x2 x3 x4 x5 x6 i j d).symm
  · rw [val_main_v54_apply]
    exact g_row x0 x1 x2 x3 x4 x5 x6 i j r

/-- The gradient of the up-projection factor. -/
theorem db_eq (r : Fin 160) (n : Fin 18432) :
    val_main_v60 (F := Ideal) x0 x1 x2 x3 x4 x5 x6 (ix2 r n) = (rin x0 x1 x2 x3 x4 x5 x6).db r n := by
  rw [val_main_v60_apply, val_main_v59_apply, val_main_cst_8_apply]
  unfold Inp.db
  refine congrArg (fun z : EReal => Ideal.ofBits .f32 3221225472#32 * z) ?_
  unfold val_main_v58
  rw [dot_db, ← sum_rows]
  refine Finset.sum_congr rfl fun i _ => Finset.sum_congr rfl fun j _ => congrArg₂ (fun w z : EReal => w * z) ?_ ?_
  · exact pb_eq x0 x1 x2 x3 x4 x5 x6 i j r
  · rw [val_main_v52_apply]
    exact res_eq x0 x1 x2 x3 x4 x5 x6 i j n

end Cert.ReferenceIdeal.Hand
-- ==== Proof.lean ====
/- The proof of the certificate's claim: the three programs terminate without fault and leave their
   arguments unchanged, the ideal program is the kernel, and kernel and reference compute the same
   four arrays over the extended reals. -/
module

public import proofs.«01_k».proof.Proof.Gen.KernelIdeal.Value
public import proofs.«01_k».proof.Proof.Gen.ReferenceIdeal.Run
public import proofs.«01_k».proof.Proof.Gen.ReferenceIdeal.Read
public import proofs.«01_k».proof.Proof.Fold
public import proofs.«01_k».proof.Proof.RefRead
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

/-- The reference ends with its arguments unchanged; it declares no semaphore. -/
theorem frame_r : Cert.quiescent_ReferenceIdeal := fun m ρ _ =>
  (θ_run Cert.ReferenceIdeal.defs _ _).mono
    (fun r h => ⟨fun c => (h c).2.2.2.2, Idealize.ShloMosaic.sem_eq_zero_of_no_sems (by decide) r.2⟩)
    (Cert.ReferenceIdeal.Value.run (F := Ideal) m ρ)

section Values

open Cert.ReferenceIdeal.Read

variable (m : (ℓ : Loc Cert.KernelIdeal.nD Cert.KernelIdeal.τ Cert.KernelIdeal.sig) → Buf (Elt Ideal) ℓ) (c : Dev Cert.KernelIdeal.nD)

/-- The losses agree. -/
theorem loss_agree : val_main_v51 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
    (m ((c.tc : Thread Cert.KernelIdeal.nD Cert.KernelIdeal.τ).loc Cert.KernelIdeal.main_arg5)) (m ((c.tc : Thread Cert.KernelIdeal.nD Cert.KernelIdeal.τ).loc Cert.KernelIdeal.main_arg6)) = Cert.KernelIdeal.Value.G8 m c := by
  refine funext fun j => ?_
  rw [Cert.ReferenceIdeal.Hand.eq2 j (j 0) (j 1) rfl rfl]
  exact (Cert.ReferenceIdeal.Hand.loss_eq _ _ _ _ _ _ _ _ _).trans (Cert.KernelIdeal.Hand.G8_eq m c _ _).symm

/-- The residuals through the up-projection factor agree. -/
theorem g_agree : val_main_v61 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
    (m ((c.tc : Thread Cert.KernelIdeal.nD Cert.KernelIdeal.τ).loc Cert.KernelIdeal.main_arg5)) (m ((c.tc : Thread Cert.KernelIdeal.nD Cert.KernelIdeal.τ).loc Cert.KernelIdeal.main_arg6)) = Cert.KernelIdeal.Value.G9 m c := by
  refine funext fun j => ?_
  rw [Cert.ReferenceIdeal.Hand.eq2 j (j 0) (j 1) rfl rfl]
  exact (Cert.ReferenceIdeal.Hand.g_eq _ _ _ _ _ _ _ _ _).trans (Cert.KernelIdeal.Hand.G9_eq m c _ _).symm

/-- The gradients of the down-projection factor agree. -/
theorem da_agree : val_main_v57 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
    (m ((c.tc : Thread Cert.KernelIdeal.nD Cert.KernelIdeal.τ).loc Cert.KernelIdeal.main_arg5)) (m ((c.tc : Thread Cert.KernelIdeal.nD Cert.KernelIdeal.τ).loc Cert.KernelIdeal.main_arg6)) = Cert.KernelIdeal.Value.G10 m c := by
  refine funext fun j => ?_
  rw [Cert.ReferenceIdeal.Hand.eq2 j (j 0) (j 1) rfl rfl]
  exact (Cert.ReferenceIdeal.Hand.da_eq _ _ _ _ _ _ _ _ _).trans (Cert.KernelIdeal.Hand.G10_eq m c _ _).symm

/-- The gradients of the up-projection factor agree. -/
theorem db_agree : val_main_v60 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
    (m ((c.tc : Thread Cert.KernelIdeal.nD Cert.KernelIdeal.τ).loc Cert.KernelIdeal.main_arg5)) (m ((c.tc : Thread Cert.KernelIdeal.nD Cert.KernelIdeal.τ).loc Cert.KernelIdeal.main_arg6)) = Cert.KernelIdeal.Value.G11 m c := by
  refine funext fun j => ?_
  rw [Cert.ReferenceIdeal.Hand.eq2 j (j 0) (j 1) rfl rfl]
  exact (Cert.ReferenceIdeal.Hand.db_eq _ _ _ _ _ _ _ _ _).trans (Cert.KernelIdeal.Hand.G11_eq m c _ _).symm

end Values

/-- The four results agree. -/
theorem algebraic : Cert.algebraic_KernelIdeal_ReferenceIdeal := by
  intro m ρ m' ρ' _ hagree
  refine ⟨fun c => Cert.KernelIdeal.Value.G8 m c, fun c => Cert.KernelIdeal.Value.G9 m c,
    fun c => Cert.KernelIdeal.Value.G10 m c, fun c => Cert.KernelIdeal.Value.G11 m c,
    Cert.KernelIdeal.Value.run m ρ, ?_⟩
  refine (θ_run Cert.ReferenceIdeal.defs _ _).mono (fun r h c => ?_) (Cert.ReferenceIdeal.Value.run (F := Ideal) m' ρ')
  obtain ⟨a0, a1, a2, a3, a4, a5, a6⟩ := hagree c
  refine ⟨(h c).1.trans ((Cert.ReferenceIdeal.Read.val_main_v51_eq m' c).trans ?_),
    (h c).2.1.trans ((Cert.ReferenceIdeal.Read.val_main_v61_eq _ _ _ _ _ _ _).trans ?_),
    (h c).2.2.1.trans ((Cert.ReferenceIdeal.Read.val_main_v57_eq _ _ _ _ _ _ _).trans ?_),
    (h c).2.2.2.1.trans ((Cert.ReferenceIdeal.Read.val_main_v60_eq _ _ _ _ _ _ _).trans ?_), (h c).2.2.2.2⟩
  · rw [a0, a1, a2, a3, a4, a5, a6]
    exact loss_agree m c
  · rw [a0, a1, a2, a3, a4, a5, a6]
    exact g_agree m c
  · rw [a0, a1, a2, a3, a4, a5, a6]
    exact da_agree m c
  · rw [a0, a1, a2, a3, a4, a5, a6]
    exact db_agree m c

/-- The five claims. -/
theorem claim : Cert.Claim := ⟨Cert.Kernel.Gen.facts, Cert.KernelIdeal.Gen.facts, Cert.ReferenceIdeal.Gen.facts, by
  exact ⟨fun m ρ _ => Cert.Kernel.Gen.frame m ρ, fun m ρ _ => Cert.KernelIdeal.Gen.frame m ρ, frame_r, trivial, algebraic⟩⟩

end Cert.Proof

end
